-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S16x512 : Shape := ⟨2, ![16, 512]⟩
abbrev S512x512 : Shape := ⟨2, ![512, 512]⟩
abbrev S31 : Shape := ⟨1, ![31]⟩
abbrev S_ : Shape := ⟨0, ![]⟩
abbrev S512 : Shape := ⟨1, ![512]⟩
abbrev S512x4 : Shape := ⟨2, ![512, 4]⟩
abbrev S1x512 : Shape := ⟨2, ![1, 512]⟩
abbrev S16x256 : Shape := ⟨2, ![16, 256]⟩
abbrev S16x1 : Shape := ⟨2, ![16, 1]⟩
abbrev S1x256x512 : Shape := ⟨3, ![1, 256, 512]⟩
abbrev S256x512 : Shape := ⟨2, ![256, 512]⟩
abbrev S1 : Shape := ⟨1, ![1]⟩
abbrev S16 : Shape := ⟨1, ![16]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x1, .i32⟩
  | .hbm, ⟨3, _⟩ => ⟨S4x256x512, .f32⟩
  | .hbm, ⟨4, _⟩ => ⟨S16x512, .f32⟩
  | .local _ .vmem, ⟨0, _⟩ => ⟨S512x256, .f32⟩
  | .local _ .vmem, ⟨1, _⟩ => ⟨S512x1, .i32⟩
  | .local _ .vmem, ⟨2, _⟩ => ⟨S4x256x512, .f32⟩
  | .local _ .vmem, ⟨3, _⟩ => ⟨S16x512, .f32⟩
  | .local _ .vmem, ⟨4, _⟩ => ⟨S16x512, .bf16⟩
  | .local _ .vmem, ⟨5, _⟩ => ⟨S512x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_332 : BitVec 32 := 1#32
  let v556 : BitVec 32 := Scalar.addi v2 c1_i32_332
  let c32_i32_333 : BitVec 32 := 32#32
  let c0_i32_334 : BitVec 32 := 0#32
  let v557 : BitVec 1 := Scalar.cmpi .eq c32_i32_333 c0_i32_334
  let c1_i32_335 : BitVec 32 := 1#32
  let v558 : BitVec 32 := Scalar.select v557 c1_i32_335 c32_i32_333
  let v559 : BitVec 32 := Scalar.remsi v556 v558
  let c0_i32_337 : BitVec 32 := 0#32
  let v561 : BitVec 1 := Scalar.cmpi .slt v559 c0_i32_337
  let c0_i32_338 : BitVec 32 := 0#32
  let v562 : BitVec 1 := Scalar.cmpi .slt v558 c0_i32_338
  let v563 : BitVec 1 := Scalar.xori v561 v562
  let c0_i32_336 : BitVec 32 := 0#32
  let v560 : BitVec 1 := Scalar.cmpi .ne v559 c0_i32_336
  let v564 : BitVec 1 := Scalar.andi v563 v560
  let v565 : BitVec 32 := Scalar.addi v559 v558
  let v566 : BitVec 32 := Scalar.select v564 v565 v559
  let c1_i32_341 : BitVec 32 := 1#32
  let v567 : BitVec 32 := Scalar.muli v566 c1_i32_341
  let v568 : BitVec 32 := Scalar.addi c0_i32_342 v567
  v568.toNat
def k0_dev33 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_345 : BitVec 32 := 2#32
  let v574 : BitVec 32 := Scalar.addi v2 c2_i32_345
  let c32_i32_346 : BitVec 32 := 32#32
  let c0_i32_347 : BitVec 32 := 0#32
  let v575 : BitVec 1 := Scalar.cmpi .eq c32_i32_346 c0_i32_347
  let c1_i32_348 : BitVec 32 := 1#32
  let v576 : BitVec 32 := Scalar.select v575 c1_i32_348 c32_i32_346
  let v577 : BitVec 32 := Scalar.remsi v574 v576
  let c0_i32_350 : BitVec 32 := 0#32
  let v579 : BitVec 1 := Scalar.cmpi .slt v577 c0_i32_350
  let c0_i32_351 : BitVec 32 := 0#32
  let v580 : BitVec 1 := Scalar.cmpi .slt v576 c0_i32_351
  let v581 : BitVec 1 := Scalar.xori v579 v580
  let c0_i32_349 : BitVec 32 := 0#32
  let v578 : BitVec 1 := Scalar.cmpi .ne v577 c0_i32_349
  let v582 : BitVec 1 := Scalar.andi v581 v578
  let v583 : BitVec 32 := Scalar.addi v577 v576
  let v584 : BitVec 32 := Scalar.select v582 v583 v577
  let c1_i32_354 : BitVec 32 := 1#32
  let v585 : BitVec 32 := Scalar.muli v584 c1_i32_354
  let v586 : BitVec 32 := Scalar.addi c0_i32_355 v585
  v586.toNat
def k0_dev34 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_358 : BitVec 32 := 3#32
  let v592 : BitVec 32 := Scalar.addi v2 c3_i32_358
  let c32_i32_359 : BitVec 32 := 32#32
  let c0_i32_360 : BitVec 32 := 0#32
  let v593 : BitVec 1 := Scalar.cmpi .eq c32_i32_359 c0_i32_360
  let c1_i32_361 : BitVec 32 := 1#32
  let v594 : BitVec 32 := Scalar.select v593 c1_i32_361 c32_i32_359
  let v595 : BitVec 32 := Scalar.remsi v592 v594
  let c0_i32_363 : BitVec 32 := 0#32
  let v597 : BitVec 1 := Scalar.cmpi .slt v595 c0_i32_363
  let c0_i32_364 : BitVec 32 := 0#32
  let v598 : BitVec 1 := Scalar.cmpi .slt v594 c0_i32_364
  let v599 : BitVec 1 := Scalar.xori v597 v598
  let c0_i32_362 : BitVec 32 := 0#32
  let v596 : BitVec 1 := Scalar.cmpi .ne v595 c0_i32_362
  let v600 : BitVec 1 := Scalar.andi v599 v596
  let v601 : BitVec 32 := Scalar.addi v595 v594
  let v602 : BitVec 32 := Scalar.select v600 v601 v595
  let c1_i32_367 : BitVec 32 := 1#32
  let v603 : BitVec 32 := Scalar.muli v602 c1_i32_367
  let v604 : BitVec 32 := Scalar.addi c0_i32_368 v603
  v604.toNat
def k0_dev35 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_371 : BitVec 32 := 4#32
  let v610 : BitVec 32 := Scalar.addi v2 c4_i32_371
  let c32_i32_372 : BitVec 32 := 32#32
  let c0_i32_373 : BitVec 32 := 0#32
  let v611 : BitVec 1 := Scalar.cmpi .eq c32_i32_372 c0_i32_373
  let c1_i32_374 : BitVec 32 := 1#32
  let v612 : BitVec 32 := Scalar.select v611 c1_i32_374 c32_i32_372
  let v613 : BitVec 32 := Scalar.remsi v610 v612
  let c0_i32_376 : BitVec 32 := 0#32
  let v615 : BitVec 1 := Scalar.cmpi .slt v613 c0_i32_376
  let c0_i32_377 : BitVec 32 := 0#32
  let v616 : BitVec 1 := Scalar.cmpi .slt v612 c0_i32_377
  let v617 : BitVec 1 := Scalar.xori v615 v616
  let c0_i32_375 : BitVec 32 := 0#32
  let v614 : BitVec 1 := Scalar.cmpi .ne v613 c0_i32_375
  let v618 : BitVec 1 := Scalar.andi v617 v614
  let v619 : BitVec 32 := Scalar.addi v613 v612
  let v620 : BitVec 32 := Scalar.select v618 v619 v613
  let c1_i32_380 : BitVec 32 := 1#32
  let v621 : BitVec 32 := Scalar.muli v620 c1_i32_380
  let v622 : BitVec 32 := Scalar.addi c0_i32_381 v621
  v622.toNat
def k0_dev36 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_383 : BitVec 32 := 5#32
  let v628 : BitVec 32 := Scalar.addi v2 c5_i32_383
  let c32_i32_384 : BitVec 32 := 32#32
  let c0_i32_385 : BitVec 32 := 0#32
  let v629 : BitVec 1 := Scalar.cmpi .eq c32_i32_384 c0_i32_385
  let c1_i32_386 : BitVec 32 := 1#32
  let v630 : BitVec 32 := Scalar.select v629 c1_i32_386 c32_i32_384
  let v631 : BitVec 32 := Scalar.remsi v628 v630
  let c0_i32_388 : BitVec 32 := 0#32
  let v633 : BitVec 1 := Scalar.cmpi .slt v631 c0_i32_388
  let c0_i32_389 : BitVec 32 := 0#32
  let v634 : BitVec 1 := Scalar.cmpi .slt v630 c0_i32_389
  let v635 : BitVec 1 := Scalar.xori v633 v634
  let c0_i32_387 : BitVec 32 := 0#32
  let v632 : BitVec 1 := Scalar.cmpi .ne v631 c0_i32_387
  let v636 : BitVec 1 := Scalar.andi v635 v632
  let v637 : BitVec 32 := Scalar.addi v631 v630
  let v638 : BitVec 32 := Scalar.select v636 v637 v631
  let c1_i32_392 : BitVec 32 := 1#32
  let v639 : BitVec 32 := Scalar.muli v638 c1_i32_392
  let v640 : BitVec 32 := Scalar.addi c0_i32_393 v639
  v640.toNat
def k0_dev37 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_395 : BitVec 32 := 6#32
  let v646 : BitVec 32 := Scalar.addi v2 c6_i32_395
  let c32_i32_396 : BitVec 32 := 32#32
  let c0_i32_397 : BitVec 32 := 0#32
  let v647 : BitVec 1 := Scalar.cmpi .eq c32_i32_396 c0_i32_397
  let c1_i32_398 : BitVec 32 := 1#32
  let v648 : BitVec 32 := Scalar.select v647 c1_i32_398 c32_i32_396
  let v649 : BitVec 32 := Scalar.remsi v646 v648
  let c0_i32_400 : BitVec 32 := 0#32
  let v651 : BitVec 1 := Scalar.cmpi .slt v649 c0_i32_400
  let c0_i32_401 : BitVec 32 := 0#32
  let v652 : BitVec 1 := Scalar.cmpi .slt v648 c0_i32_401
  let v653 : BitVec 1 := Scalar.xori v651 v652
  let c0_i32_399 : BitVec 32 := 0#32
  let v650 : BitVec 1 := Scalar.cmpi .ne v649 c0_i32_399
  let v654 : BitVec 1 := Scalar.andi v653 v650
  let v655 : BitVec 32 := Scalar.addi v649 v648
  let v656 : BitVec 32 := Scalar.select v654 v655 v649
  let c1_i32_404 : BitVec 32 := 1#32
  let v657 : BitVec 32 := Scalar.muli v656 c1_i32_404
  let v658 : BitVec 32 := Scalar.addi c0_i32_405 v657
  v658.toNat
def k0_dev38 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_407 : BitVec 32 := 7#32
  let v664 : BitVec 32 := Scalar.addi v2 c7_i32_407
  let c32_i32_408 : BitVec 32 := 32#32
  let c0_i32_409 : BitVec 32 := 0#32
  let v665 : BitVec 1 := Scalar.cmpi .eq c32_i32_408 c0_i32_409
  let c1_i32_410 : BitVec 32 := 1#32
  let v666 : BitVec 32 := Scalar.select v665 c1_i32_410 c32_i32_408
  let v667 : BitVec 32 := Scalar.remsi v664 v666
  let c0_i32_412 : BitVec 32 := 0#32
  let v669 : BitVec 1 := Scalar.cmpi .slt v667 c0_i32_412
  let c0_i32_413 : BitVec 32 := 0#32
  let v670 : BitVec 1 := Scalar.cmpi .slt v666 c0_i32_413
  let v671 : BitVec 1 := Scalar.xori v669 v670
  let c0_i32_411 : BitVec 32 := 0#32
  let v668 : BitVec 1 := Scalar.cmpi .ne v667 c0_i32_411
  let v672 : BitVec 1 := Scalar.andi v671 v668
  let v673 : BitVec 32 := Scalar.addi v667 v666
  let v674 : BitVec 32 := Scalar.select v672 v673 v667
  let c1_i32_416 : BitVec 32 := 1#32
  let v675 : BitVec 32 := Scalar.muli v674 c1_i32_416
  let v676 : BitVec 32 := Scalar.addi c0_i32_417 v675
  v676.toNat
def k0_dev39 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_419 : BitVec 32 := 8#32
  let v682 : BitVec 32 := Scalar.addi v2 c8_i32_419
  let c32_i32_420 : BitVec 32 := 32#32
  let c0_i32_421 : BitVec 32 := 0#32
  let v683 : BitVec 1 := Scalar.cmpi .eq c32_i32_420 c0_i32_421
  let c1_i32_422 : BitVec 32 := 1#32
  let v684 : BitVec 32 := Scalar.select v683 c1_i32_422 c32_i32_420
  let v685 : BitVec 32 := Scalar.remsi v682 v684
  let c0_i32_424 : BitVec 32 := 0#32
  let v687 : BitVec 1 := Scalar.cmpi .slt v685 c0_i32_424
  let c0_i32_425 : BitVec 32 := 0#32
  let v688 : BitVec 1 := Scalar.cmpi .slt v684 c0_i32_425
  let v689 : BitVec 1 := Scalar.xori v687 v688
  let c0_i32_423 : BitVec 32 := 0#32
  let v686 : BitVec 1 := Scalar.cmpi .ne v685 c0_i32_423
  let v690 : BitVec 1 := Scalar.andi v689 v686
  let v691 : BitVec 32 := Scalar.addi v685 v684
  let v692 : BitVec 32 := Scalar.select v690 v691 v685
  let c1_i32_428 : BitVec 32 := 1#32
  let v693 : BitVec 32 := Scalar.muli v692 c1_i32_428
  let v694 : BitVec 32 := Scalar.addi c0_i32_429 v693
  v694.toNat
def k0_dev40 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_431 : BitVec 32 := 9#32
  let v700 : BitVec 32 := Scalar.addi v2 c9_i32_431
  let c32_i32_432 : BitVec 32 := 32#32
  let c0_i32_433 : BitVec 32 := 0#32
  let v701 : BitVec 1 := Scalar.cmpi .eq c32_i32_432 c0_i32_433
  let c1_i32_434 : BitVec 32 := 1#32
  let v702 : BitVec 32 := Scalar.select v701 c1_i32_434 c32_i32_432
  let v703 : BitVec 32 := Scalar.remsi v700 v702
  let c0_i32_436 : BitVec 32 := 0#32
  let v705 : BitVec 1 := Scalar.cmpi .slt v703 c0_i32_436
  let c0_i32_437 : BitVec 32 := 0#32
  let v706 : BitVec 1 := Scalar.cmpi .slt v702 c0_i32_437
  let v707 : BitVec 1 := Scalar.xori v705 v706
  let c0_i32_435 : BitVec 32 := 0#32
  let v704 : BitVec 1 := Scalar.cmpi .ne v703 c0_i32_435
  let v708 : BitVec 1 := Scalar.andi v707 v704
  let v709 : BitVec 32 := Scalar.addi v703 v702
  let v710 : BitVec 32 := Scalar.select v708 v709 v703
  let c1_i32_440 : BitVec 32 := 1#32
  let v711 : BitVec 32 := Scalar.muli v710 c1_i32_440
  let v712 : BitVec 32 := Scalar.addi c0_i32_441 v711
  v712.toNat
def k0_dev41 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_443 : BitVec 32 := 10#32
  let v718 : BitVec 32 := Scalar.addi v2 c10_i32_443
  let c32_i32_444 : BitVec 32 := 32#32
  let c0_i32_445 : BitVec 32 := 0#32
  let v719 : BitVec 1 := Scalar.cmpi .eq c32_i32_444 c0_i32_445
  let c1_i32_446 : BitVec 32 := 1#32
  let v720 : BitVec 32 := Scalar.select v719 c1_i32_446 c32_i32_444
  let v721 : BitVec 32 := Scalar.remsi v718 v720
  let c0_i32_448 : BitVec 32 := 0#32
  let v723 : BitVec 1 := Scalar.cmpi .slt v721 c0_i32_448
  let c0_i32_449 : BitVec 32 := 0#32
  let v724 : BitVec 1 := Scalar.cmpi .slt v720 c0_i32_449
  let v725 : BitVec 1 := Scalar.xori v723 v724
  let c0_i32_447 : BitVec 32 := 0#32
  let v722 : BitVec 1 := Scalar.cmpi .ne v721 c0_i32_447
  let v726 : BitVec 1 := Scalar.andi v725 v722
  let v727 : BitVec 32 := Scalar.addi v721 v720
  let v728 : BitVec 32 := Scalar.select v726 v727 v721
  let c1_i32_452 : BitVec 32 := 1#32
  let v729 : BitVec 32 := Scalar.muli v728 c1_i32_452
  let v730 : BitVec 32 := Scalar.addi c0_i32_453 v729
  v730.toNat
def k0_dev42 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_455 : BitVec 32 := 11#32
  let v736 : BitVec 32 := Scalar.addi v2 c11_i32_455
  let c32_i32_456 : BitVec 32 := 32#32
  let c0_i32_457 : BitVec 32 := 0#32
  let v737 : BitVec 1 := Scalar.cmpi .eq c32_i32_456 c0_i32_457
  let c1_i32_458 : BitVec 32 := 1#32
  let v738 : BitVec 32 := Scalar.select v737 c1_i32_458 c32_i32_456
  let v739 : BitVec 32 := Scalar.remsi v736 v738
  let c0_i32_460 : BitVec 32 := 0#32
  let v741 : BitVec 1 := Scalar.cmpi .slt v739 c0_i32_460
  let c0_i32_461 : BitVec 32 := 0#32
  let v742 : BitVec 1 := Scalar.cmpi .slt v738 c0_i32_461
  let v743 : BitVec 1 := Scalar.xori v741 v742
  let c0_i32_459 : BitVec 32 := 0#32
  let v740 : BitVec 1 := Scalar.cmpi .ne v739 c0_i32_459
  let v744 : BitVec 1 := Scalar.andi v743 v740
  let v745 : BitVec 32 := Scalar.addi v739 v738
  let v746 : BitVec 32 := Scalar.select v744 v745 v739
  let c1_i32_464 : BitVec 32 := 1#32
  let v747 : BitVec 32 := Scalar.muli v746 c1_i32_464
  let v748 : BitVec 32 := Scalar.addi c0_i32_465 v747
  v748.toNat
def k0_dev43 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_467 : BitVec 32 := 12#32
  let v754 : BitVec 32 := Scalar.addi v2 c12_i32_467
  let c32_i32_468 : BitVec 32 := 32#32
  let c0_i32_469 : BitVec 32 := 0#32
  let v755 : BitVec 1 := Scalar.cmpi .eq c32_i32_468 c0_i32_469
  let c1_i32_470 : BitVec 32 := 1#32
  let v756 : BitVec 32 := Scalar.select v755 c1_i32_470 c32_i32_468
  let v757 : BitVec 32 := Scalar.remsi v754 v756
  let c0_i32_472 : BitVec 32 := 0#32
  let v759 : BitVec 1 := Scalar.cmpi .slt v757 c0_i32_472
  let c0_i32_473 : BitVec 32 := 0#32
  let v760 : BitVec 1 := Scalar.cmpi .slt v756 c0_i32_473
  let v761 : BitVec 1 := Scalar.xori v759 v760
  let c0_i32_471 : BitVec 32 := 0#32
  let v758 : BitVec 1 := Scalar.cmpi .ne v757 c0_i32_471
  let v762 : BitVec 1 := Scalar.andi v761 v758
  let v763 : BitVec 32 := Scalar.addi v757 v756
  let v764 : BitVec 32 := Scalar.select v762 v763 v757
  let c1_i32_476 : BitVec 32 := 1#32
  let v765 : BitVec 32 := Scalar.muli v764 c1_i32_476
  let v766 : BitVec 32 := Scalar.addi c0_i32_477 v765
  v766.toNat
def k0_dev44 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_479 : BitVec 32 := 13#32
  let v772 : BitVec 32 := Scalar.addi v2 c13_i32_479
  let c32_i32_480 : BitVec 32 := 32#32
  let c0_i32_481 : BitVec 32 := 0#32
  let v773 : BitVec 1 := Scalar.cmpi .eq c32_i32_480 c0_i32_481
  let c1_i32_482 : BitVec 32 := 1#32
  let v774 : BitVec 32 := Scalar.select v773 c1_i32_482 c32_i32_480
  let v775 : BitVec 32 := Scalar.remsi v772 v774
  let c0_i32_484 : BitVec 32 := 0#32
  let v777 : BitVec 1 := Scalar.cmpi .slt v775 c0_i32_484
  let c0_i32_485 : BitVec 32 := 0#32
  let v778 : BitVec 1 := Scalar.cmpi .slt v774 c0_i32_485
  let v779 : BitVec 1 := Scalar.xori v777 v778
  let c0_i32_483 : BitVec 32 := 0#32
  let v776 : BitVec 1 := Scalar.cmpi .ne v775 c0_i32_483
  let v780 : BitVec 1 := Scalar.andi v779 v776
  let v781 : BitVec 32 := Scalar.addi v775 v774
  let v782 : BitVec 32 := Scalar.select v780 v781 v775
  let c1_i32_488 : BitVec 32 := 1#32
  let v783 : BitVec 32 := Scalar.muli v782 c1_i32_488
  let v784 : BitVec 32 := Scalar.addi c0_i32_489 v783
  v784.toNat
def k0_dev45 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_491 : BitVec 32 := 14#32
  let v790 : BitVec 32 := Scalar.addi v2 c14_i32_491
  let c32_i32_492 : BitVec 32 := 32#32
  let c0_i32_493 : BitVec 32 := 0#32
  let v791 : BitVec 1 := Scalar.cmpi .eq c32_i32_492 c0_i32_493
  let c1_i32_494 : BitVec 32 := 1#32
  let v792 : BitVec 32 := Scalar.select v791 c1_i32_494 c32_i32_492
  let v793 : BitVec 32 := Scalar.remsi v790 v792
  let c0_i32_496 : BitVec 32 := 0#32
  let v795 : BitVec 1 := Scalar.cmpi .slt v793 c0_i32_496
  let c0_i32_497 : BitVec 32 := 0#32
  let v796 : BitVec 1 := Scalar.cmpi .slt v792 c0_i32_497
  let v797 : BitVec 1 := Scalar.xori v795 v796
  let c0_i32_495 : BitVec 32 := 0#32
  let v794 : BitVec 1 := Scalar.cmpi .ne v793 c0_i32_495
  let v798 : BitVec 1 := Scalar.andi v797 v794
  let v799 : BitVec 32 := Scalar.addi v793 v792
  let v800 : BitVec 32 := Scalar.select v798 v799 v793
  let c1_i32_500 : BitVec 32 := 1#32
  let v801 : BitVec 32 := Scalar.muli v800 c1_i32_500
  let v802 : BitVec 32 := Scalar.addi c0_i32_501 v801
  v802.toNat
def k0_dev46 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_503 : BitVec 32 := 15#32
  let v808 : BitVec 32 := Scalar.addi v2 c15_i32_503
  let c32_i32_504 : BitVec 32 := 32#32
  let c0_i32_505 : BitVec 32 := 0#32
  let v809 : BitVec 1 := Scalar.cmpi .eq c32_i32_504 c0_i32_505
  let c1_i32_506 : BitVec 32 := 1#32
  let v810 : BitVec 32 := Scalar.select v809 c1_i32_506 c32_i32_504
  let v811 : BitVec 32 := Scalar.remsi v808 v810
  let c0_i32_508 : BitVec 32 := 0#32
  let v813 : BitVec 1 := Scalar.cmpi .slt v811 c0_i32_508
  let c0_i32_509 : BitVec 32 := 0#32
  let v814 : BitVec 1 := Scalar.cmpi .slt v810 c0_i32_509
  let v815 : BitVec 1 := Scalar.xori v813 v814
  let c0_i32_507 : BitVec 32 := 0#32
  let v812 : BitVec 1 := Scalar.cmpi .ne v811 c0_i32_507
  let v816 : BitVec 1 := Scalar.andi v815 v812
  let v817 : BitVec 32 := Scalar.addi v811 v810
  let v818 : BitVec 32 := Scalar.select v816 v817 v811
  let c1_i32_512 : BitVec 32 := 1#32
  let v819 : BitVec 32 := Scalar.muli v818 c1_i32_512
  let v820 : BitVec 32 := Scalar.addi c0_i32_513 v819
  v820.toNat
def k0_dev47 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_515 : BitVec 32 := 16#32
  let v826 : BitVec 32 := Scalar.addi v2 c16_i32_515
  let c32_i32_516 : BitVec 32 := 32#32
  let c0_i32_517 : BitVec 32 := 0#32
  let v827 : BitVec 1 := Scalar.cmpi .eq c32_i32_516 c0_i32_517
  let c1_i32_518 : BitVec 32 := 1#32
  let v828 : BitVec 32 := Scalar.select v827 c1_i32_518 c32_i32_516
  let v829 : BitVec 32 := Scalar.remsi v826 v828
  let c0_i32_520 : BitVec 32 := 0#32
  let v831 : BitVec 1 := Scalar.cmpi .slt v829 c0_i32_520
  let c0_i32_521 : BitVec 32 := 0#32
  let v832 : BitVec 1 := Scalar.cmpi .slt v828 c0_i32_521
  let v833 : BitVec 1 := Scalar.xori v831 v832
  let c0_i32_519 : BitVec 32 := 0#32
  let v830 : BitVec 1 := Scalar.cmpi .ne v829 c0_i32_519
  let v834 : BitVec 1 := Scalar.andi v833 v830
  let v835 : BitVec 32 := Scalar.addi v829 v828
  let v836 : BitVec 32 := Scalar.select v834 v835 v829
  let c1_i32_524 : BitVec 32 := 1#32
  let v837 : BitVec 32 := Scalar.muli v836 c1_i32_524
  let v838 : BitVec 32 := Scalar.addi c0_i32_525 v837
  v838.toNat
def k0_dev48 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_527 : BitVec 32 := 17#32
  let v844 : BitVec 32 := Scalar.addi v2 c17_i32_527
  let c32_i32_528 : BitVec 32 := 32#32
  let c0_i32_529 : BitVec 32 := 0#32
  let v845 : BitVec 1 := Scalar.cmpi .eq c32_i32_528 c0_i32_529
  let c1_i32_530 : BitVec 32 := 1#32
  let v846 : BitVec 32 := Scalar.select v845 c1_i32_530 c32_i32_528
  let v847 : BitVec 32 := Scalar.remsi v844 v846
  let c0_i32_532 : BitVec 32 := 0#32
  let v849 : BitVec 1 := Scalar.cmpi .slt v847 c0_i32_532
  let c0_i32_533 : BitVec 32 := 0#32
  let v850 : BitVec 1 := Scalar.cmpi .slt v846 c0_i32_533
  let v851 : BitVec 1 := Scalar.xori v849 v850
  let c0_i32_531 : BitVec 32 := 0#32
  let v848 : BitVec 1 := Scalar.cmpi .ne v847 c0_i32_531
  let v852 : BitVec 1 := Scalar.andi v851 v848
  let v853 : BitVec 32 := Scalar.addi v847 v846
  let v854 : BitVec 32 := Scalar.select v852 v853 v847
  let c1_i32_536 : BitVec 32 := 1#32
  let v855 : BitVec 32 := Scalar.muli v854 c1_i32_536
  let v856 : BitVec 32 := Scalar.addi c0_i32_537 v855
  v856.toNat
def k0_dev49 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_539 : BitVec 32 := 18#32
  let v862 : BitVec 32 := Scalar.addi v2 c18_i32_539
  let c32_i32_540 : BitVec 32 := 32#32
  let c0_i32_541 : BitVec 32 := 0#32
  let v863 : BitVec 1 := Scalar.cmpi .eq c32_i32_540 c0_i32_541
  let c1_i32_542 : BitVec 32 := 1#32
  let v864 : BitVec 32 := Scalar.select v863 c1_i32_542 c32_i32_540
  let v865 : BitVec 32 := Scalar.remsi v862 v864
  let c0_i32_544 : BitVec 32 := 0#32
  let v867 : BitVec 1 := Scalar.cmpi .slt v865 c0_i32_544
  let c0_i32_545 : BitVec 32 := 0#32
  let v868 : BitVec 1 := Scalar.cmpi .slt v864 c0_i32_545
  let v869 : BitVec 1 := Scalar.xori v867 v868
  let c0_i32_543 : BitVec 32 := 0#32
  let v866 : BitVec 1 := Scalar.cmpi .ne v865 c0_i32_543
  let v870 : BitVec 1 := Scalar.andi v869 v866
  let v871 : BitVec 32 := Scalar.addi v865 v864
  let v872 : BitVec 32 := Scalar.select v870 v871 v865
  let c1_i32_548 : BitVec 32 := 1#32
  let v873 : BitVec 32 := Scalar.muli v872 c1_i32_548
  let v874 : BitVec 32 := Scalar.addi c0_i32_549 v873
  v874.toNat
def k0_dev50 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_551 : BitVec 32 := 19#32
  let v880 : BitVec 32 := Scalar.addi v2 c19_i32_551
  let c32_i32_552 : BitVec 32 := 32#32
  let c0_i32_553 : BitVec 32 := 0#32
  let v881 : BitVec 1 := Scalar.cmpi .eq c32_i32_552 c0_i32_553
  let c1_i32_554 : BitVec 32 := 1#32
  let v882 : BitVec 32 := Scalar.select v881 c1_i32_554 c32_i32_552
  let v883 : BitVec 32 := Scalar.remsi v880 v882
  let c0_i32_556 : BitVec 32 := 0#32
  let v885 : BitVec 1 := Scalar.cmpi .slt v883 c0_i32_556
  let c0_i32_557 : BitVec 32 := 0#32
  let v886 : BitVec 1 := Scalar.cmpi .slt v882 c0_i32_557
  let v887 : BitVec 1 := Scalar.xori v885 v886
  let c0_i32_555 : BitVec 32 := 0#32
  let v884 : BitVec 1 := Scalar.cmpi .ne v883 c0_i32_555
  let v888 : BitVec 1 := Scalar.andi v887 v884
  let v889 : BitVec 32 := Scalar.addi v883 v882
  let v890 : BitVec 32 := Scalar.select v888 v889 v883
  let c1_i32_560 : BitVec 32 := 1#32
  let v891 : BitVec 32 := Scalar.muli v890 c1_i32_560
  let v892 : BitVec 32 := Scalar.addi c0_i32_561 v891
  v892.toNat
def k0_dev51 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_563 : BitVec 32 := 20#32
  let v898 : BitVec 32 := Scalar.addi v2 c20_i32_563
  let c32_i32_564 : BitVec 32 := 32#32
  let c0_i32_565 : BitVec 32 := 0#32
  let v899 : BitVec 1 := Scalar.cmpi .eq c32_i32_564 c0_i32_565
  let c1_i32_566 : BitVec 32 := 1#32
  let v900 : BitVec 32 := Scalar.select v899 c1_i32_566 c32_i32_564
  let v901 : BitVec 32 := Scalar.remsi v898 v900
  let c0_i32_568 : BitVec 32 := 0#32
  let v903 : BitVec 1 := Scalar.cmpi .slt v901 c0_i32_568
  let c0_i32_569 : BitVec 32 := 0#32
  let v904 : BitVec 1 := Scalar.cmpi .slt v900 c0_i32_569
  let v905 : BitVec 1 := Scalar.xori v903 v904
  let c0_i32_567 : BitVec 32 := 0#32
  let v902 : BitVec 1 := Scalar.cmpi .ne v901 c0_i32_567
  let v906 : BitVec 1 := Scalar.andi v905 v902
  let v907 : BitVec 32 := Scalar.addi v901 v900
  let v908 : BitVec 32 := Scalar.select v906 v907 v901
  let c1_i32_572 : BitVec 32 := 1#32
  let v909 : BitVec 32 := Scalar.muli v908 c1_i32_572
  let v910 : BitVec 32 := Scalar.addi c0_i32_573 v909
  v910.toNat
def k0_dev52 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_575 : BitVec 32 := 21#32
  let v916 : BitVec 32 := Scalar.addi v2 c21_i32_575
  let c32_i32_576 : BitVec 32 := 32#32
  let c0_i32_577 : BitVec 32 := 0#32
  let v917 : BitVec 1 := Scalar.cmpi .eq c32_i32_576 c0_i32_577
  let c1_i32_578 : BitVec 32 := 1#32
  let v918 : BitVec 32 := Scalar.select v917 c1_i32_578 c32_i32_576
  let v919 : BitVec 32 := Scalar.remsi v916 v918
  let c0_i32_580 : BitVec 32 := 0#32
  let v921 : BitVec 1 := Scalar.cmpi .slt v919 c0_i32_580
  let c0_i32_581 : BitVec 32 := 0#32
  let v922 : BitVec 1 := Scalar.cmpi .slt v918 c0_i32_581
  let v923 : BitVec 1 := Scalar.xori v921 v922
  let c0_i32_579 : BitVec 32 := 0#32
  let v920 : BitVec 1 := Scalar.cmpi .ne v919 c0_i32_579
  let v924 : BitVec 1 := Scalar.andi v923 v920
  let v925 : BitVec 32 := Scalar.addi v919 v918
  let v926 : BitVec 32 := Scalar.select v924 v925 v919
  let c1_i32_584 : BitVec 32 := 1#32
  let v927 : BitVec 32 := Scalar.muli v926 c1_i32_584
  let v928 : BitVec 32 := Scalar.addi c0_i32_585 v927
  v928.toNat
def k0_dev53 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_587 : BitVec 32 := 22#32
  let v934 : BitVec 32 := Scalar.addi v2 c22_i32_587
  let c32_i32_588 : BitVec 32 := 32#32
  let c0_i32_589 : BitVec 32 := 0#32
  let v935 : BitVec 1 := Scalar.cmpi .eq c32_i32_588 c0_i32_589
  let c1_i32_590 : BitVec 32 := 1#32
  let v936 : BitVec 32 := Scalar.select v935 c1_i32_590 c32_i32_588
  let v937 : BitVec 32 := Scalar.remsi v934 v936
  let c0_i32_592 : BitVec 32 := 0#32
  let v939 : BitVec 1 := Scalar.cmpi .slt v937 c0_i32_592
  let c0_i32_593 : BitVec 32 := 0#32
  let v940 : BitVec 1 := Scalar.cmpi .slt v936 c0_i32_593
  let v941 : BitVec 1 := Scalar.xori v939 v940
  let c0_i32_591 : BitVec 32 := 0#32
  let v938 : BitVec 1 := Scalar.cmpi .ne v937 c0_i32_591
  let v942 : BitVec 1 := Scalar.andi v941 v938
  let v943 : BitVec 32 := Scalar.addi v937 v936
  let v944 : BitVec 32 := Scalar.select v942 v943 v937
  let c1_i32_596 : BitVec 32 := 1#32
  let v945 : BitVec 32 := Scalar.muli v944 c1_i32_596
  let v946 : BitVec 32 := Scalar.addi c0_i32_597 v945
  v946.toNat
def k0_dev54 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_599 : BitVec 32 := 23#32
  let v952 : BitVec 32 := Scalar.addi v2 c23_i32_599
  let c32_i32_600 : BitVec 32 := 32#32
  let c0_i32_601 : BitVec 32 := 0#32
  let v953 : BitVec 1 := Scalar.cmpi .eq c32_i32_600 c0_i32_601
  let c1_i32_602 : BitVec 32 := 1#32
  let v954 : BitVec 32 := Scalar.select v953 c1_i32_602 c32_i32_600
  let v955 : BitVec 32 := Scalar.remsi v952 v954
  let c0_i32_604 : BitVec 32 := 0#32
  let v957 : BitVec 1 := Scalar.cmpi .slt v955 c0_i32_604
  let c0_i32_605 : BitVec 32 := 0#32
  let v958 : BitVec 1 := Scalar.cmpi .slt v954 c0_i32_605
  let v959 : BitVec 1 := Scalar.xori v957 v958
  let c0_i32_603 : BitVec 32 := 0#32
  let v956 : BitVec 1 := Scalar.cmpi .ne v955 c0_i32_603
  let v960 : BitVec 1 := Scalar.andi v959 v956
  let v961 : BitVec 32 := Scalar.addi v955 v954
  let v962 : BitVec 32 := Scalar.select v960 v961 v955
  let c1_i32_608 : BitVec 32 := 1#32
  let v963 : BitVec 32 := Scalar.muli v962 c1_i32_608
  let v964 : BitVec 32 := Scalar.addi c0_i32_609 v963
  v964.toNat
def k0_dev55 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_611 : BitVec 32 := 24#32
  let v970 : BitVec 32 := Scalar.addi v2 c24_i32_611
  let c32_i32_612 : BitVec 32 := 32#32
  let c0_i32_613 : BitVec 32 := 0#32
  let v971 : BitVec 1 := Scalar.cmpi .eq c32_i32_612 c0_i32_613
  let c1_i32_614 : BitVec 32 := 1#32
  let v972 : BitVec 32 := Scalar.select v971 c1_i32_614 c32_i32_612
  let v973 : BitVec 32 := Scalar.remsi v970 v972
  let c0_i32_616 : BitVec 32 := 0#32
  let v975 : BitVec 1 := Scalar.cmpi .slt v973 c0_i32_616
  let c0_i32_617 : BitVec 32 := 0#32
  let v976 : BitVec 1 := Scalar.cmpi .slt v972 c0_i32_617
  let v977 : BitVec 1 := Scalar.xori v975 v976
  let c0_i32_615 : BitVec 32 := 0#32
  let v974 : BitVec 1 := Scalar.cmpi .ne v973 c0_i32_615
  let v978 : BitVec 1 := Scalar.andi v977 v974
  let v979 : BitVec 32 := Scalar.addi v973 v972
  let v980 : BitVec 32 := Scalar.select v978 v979 v973
  let c1_i32_620 : BitVec 32 := 1#32
  let v981 : BitVec 32 := Scalar.muli v980 c1_i32_620
  let v982 : BitVec 32 := Scalar.addi c0_i32_621 v981
  v982.toNat
def k0_dev56 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_623 : BitVec 32 := 25#32
  let v988 : BitVec 32 := Scalar.addi v2 c25_i32_623
  let c32_i32_624 : BitVec 32 := 32#32
  let c0_i32_625 : BitVec 32 := 0#32
  let v989 : BitVec 1 := Scalar.cmpi .eq c32_i32_624 c0_i32_625
  let c1_i32_626 : BitVec 32 := 1#32
  let v990 : BitVec 32 := Scalar.select v989 c1_i32_626 c32_i32_624
  let v991 : BitVec 32 := Scalar.remsi v988 v990
  let c0_i32_628 : BitVec 32 := 0#32
  let v993 : BitVec 1 := Scalar.cmpi .slt v991 c0_i32_628
  let c0_i32_629 : BitVec 32 := 0#32
  let v994 : BitVec 1 := Scalar.cmpi .slt v990 c0_i32_629
  let v995 : BitVec 1 := Scalar.xori v993 v994
  let c0_i32_627 : BitVec 32 := 0#32
  let v992 : BitVec 1 := Scalar.cmpi .ne v991 c0_i32_627
  let v996 : BitVec 1 := Scalar.andi v995 v992
  let v997 : BitVec 32 := Scalar.addi v991 v990
  let v998 : BitVec 32 := Scalar.select v996 v997 v991
  let c1_i32_632 : BitVec 32 := 1#32
  let v999 : BitVec 32 := Scalar.muli v998 c1_i32_632
  let v1000 : BitVec 32 := Scalar.addi c0_i32_633 v999
  v1000.toNat
def k0_dev57 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_635 : BitVec 32 := 26#32
  let v1006 : BitVec 32 := Scalar.addi v2 c26_i32_635
  let c32_i32_636 : BitVec 32 := 32#32
  let c0_i32_637 : BitVec 32 := 0#32
  let v1007 : BitVec 1 := Scalar.cmpi .eq c32_i32_636 c0_i32_637
  let c1_i32_638 : BitVec 32 := 1#32
  let v1008 : BitVec 32 := Scalar.select v1007 c1_i32_638 c32_i32_636
  let v1009 : BitVec 32 := Scalar.remsi v1006 v1008
  let c0_i32_640 : BitVec 32 := 0#32
  let v1011 : BitVec 1 := Scalar.cmpi .slt v1009 c0_i32_640
  let c0_i32_641 : BitVec 32 := 0#32
  let v1012 : BitVec 1 := Scalar.cmpi .slt v1008 c0_i32_641
  let v1013 : BitVec 1 := Scalar.xori v1011 v1012
  let c0_i32_639 : BitVec 32 := 0#32
  let v1010 : BitVec 1 := Scalar.cmpi .ne v1009 c0_i32_639
  let v1014 : BitVec 1 := Scalar.andi v1013 v1010
  let v1015 : BitVec 32 := Scalar.addi v1009 v1008
  let v1016 : BitVec 32 := Scalar.select v1014 v1015 v1009
  let c1_i32_644 : BitVec 32 := 1#32
  let v1017 : BitVec 32 := Scalar.muli v1016 c1_i32_644
  let v1018 : BitVec 32 := Scalar.addi c0_i32_645 v1017
  v1018.toNat
def k0_dev58 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_647 : BitVec 32 := 27#32
  let v1024 : BitVec 32 := Scalar.addi v2 c27_i32_647
  let c32_i32_648 : BitVec 32 := 32#32
  let c0_i32_649 : BitVec 32 := 0#32
  let v1025 : BitVec 1 := Scalar.cmpi .eq c32_i32_648 c0_i32_649
  let c1_i32_650 : BitVec 32 := 1#32
  let v1026 : BitVec 32 := Scalar.select v1025 c1_i32_650 c32_i32_648
  let v1027 : BitVec 32 := Scalar.remsi v1024 v1026
  let c0_i32_652 : BitVec 32 := 0#32
  let v1029 : BitVec 1 := Scalar.cmpi .slt v1027 c0_i32_652
  let c0_i32_653 : BitVec 32 := 0#32
  let v1030 : BitVec 1 := Scalar.cmpi .slt v1026 c0_i32_653
  let v1031 : BitVec 1 := Scalar.xori v1029 v1030
  let c0_i32_651 : BitVec 32 := 0#32
  let v1028 : BitVec 1 := Scalar.cmpi .ne v1027 c0_i32_651
  let v1032 : BitVec 1 := Scalar.andi v1031 v1028
  let v1033 : BitVec 32 := Scalar.addi v1027 v1026
  let v1034 : BitVec 32 := Scalar.select v1032 v1033 v1027
  let c1_i32_656 : BitVec 32 := 1#32
  let v1035 : BitVec 32 := Scalar.muli v1034 c1_i32_656
  let v1036 : BitVec 32 := Scalar.addi c0_i32_657 v1035
  v1036.toNat
def k0_dev59 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_659 : BitVec 32 := 28#32
  let v1042 : BitVec 32 := Scalar.addi v2 c28_i32_659
  let c32_i32_660 : BitVec 32 := 32#32
  let c0_i32_661 : BitVec 32 := 0#32
  let v1043 : BitVec 1 := Scalar.cmpi .eq c32_i32_660 c0_i32_661
  let c1_i32_662 : BitVec 32 := 1#32
  let v1044 : BitVec 32 := Scalar.select v1043 c1_i32_662 c32_i32_660
  let v1045 : BitVec 32 := Scalar.remsi v1042 v1044
  let c0_i32_664 : BitVec 32 := 0#32
  let v1047 : BitVec 1 := Scalar.cmpi .slt v1045 c0_i32_664
  let c0_i32_665 : BitVec 32 := 0#32
  let v1048 : BitVec 1 := Scalar.cmpi .slt v1044 c0_i32_665
  let v1049 : BitVec 1 := Scalar.xori v1047 v1048
  let c0_i32_663 : BitVec 32 := 0#32
  let v1046 : BitVec 1 := Scalar.cmpi .ne v1045 c0_i32_663
  let v1050 : BitVec 1 := Scalar.andi v1049 v1046
  let v1051 : BitVec 32 := Scalar.addi v1045 v1044
  let v1052 : BitVec 32 := Scalar.select v1050 v1051 v1045
  let c1_i32_668 : BitVec 32 := 1#32
  let v1053 : BitVec 32 := Scalar.muli v1052 c1_i32_668
  let v1054 : BitVec 32 := Scalar.addi c0_i32_669 v1053
  v1054.toNat
def k0_dev60 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_671 : BitVec 32 := 29#32
  let v1060 : BitVec 32 := Scalar.addi v2 c29_i32_671
  let c32_i32_672 : BitVec 32 := 32#32
  let c0_i32_673 : BitVec 32 := 0#32
  let v1061 : BitVec 1 := Scalar.cmpi .eq c32_i32_672 c0_i32_673
  let c1_i32_674 : BitVec 32 := 1#32
  let v1062 : BitVec 32 := Scalar.select v1061 c1_i32_674 c32_i32_672
  let v1063 : BitVec 32 := Scalar.remsi v1060 v1062
  let c0_i32_676 : BitVec 32 := 0#32
  let v1065 : BitVec 1 := Scalar.cmpi .slt v1063 c0_i32_676
  let c0_i32_677 : BitVec 32 := 0#32
  let v1066 : BitVec 1 := Scalar.cmpi .slt v1062 c0_i32_677
  let v1067 : BitVec 1 := Scalar.xori v1065 v1066
  let c0_i32_675 : BitVec 32 := 0#32
  let v1064 : BitVec 1 := Scalar.cmpi .ne v1063 c0_i32_675
  let v1068 : BitVec 1 := Scalar.andi v1067 v1064
  let v1069 : BitVec 32 := Scalar.addi v1063 v1062
  let v1070 : BitVec 32 := Scalar.select v1068 v1069 v1063
  let c1_i32_680 : BitVec 32 := 1#32
  let v1071 : BitVec 32 := Scalar.muli v1070 c1_i32_680
  let v1072 : BitVec 32 := Scalar.addi c0_i32_681 v1071
  v1072.toNat
def k0_dev61 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_683 : BitVec 32 := 30#32
  let v1078 : BitVec 32 := Scalar.addi v2 c30_i32_683
  let c32_i32_684 : BitVec 32 := 32#32
  let c0_i32_685 : BitVec 32 := 0#32
  let v1079 : BitVec 1 := Scalar.cmpi .eq c32_i32_684 c0_i32_685
  let c1_i32_686 : BitVec 32 := 1#32
  let v1080 : BitVec 32 := Scalar.select v1079 c1_i32_686 c32_i32_684
  let v1081 : BitVec 32 := Scalar.remsi v1078 v1080
  let c0_i32_688 : BitVec 32 := 0#32
  let v1083 : BitVec 1 := Scalar.cmpi .slt v1081 c0_i32_688
  let c0_i32_689 : BitVec 32 := 0#32
  let v1084 : BitVec 1 := Scalar.cmpi .slt v1080 c0_i32_689
  let v1085 : BitVec 1 := Scalar.xori v1083 v1084
  let c0_i32_687 : BitVec 32 := 0#32
  let v1082 : BitVec 1 := Scalar.cmpi .ne v1081 c0_i32_687
  let v1086 : BitVec 1 := Scalar.andi v1085 v1082
  let v1087 : BitVec 32 := Scalar.addi v1081 v1080
  let v1088 : BitVec 32 := Scalar.select v1086 v1087 v1081
  let c1_i32_692 : BitVec 32 := 1#32
  let v1089 : BitVec 32 := Scalar.muli v1088 c1_i32_692
  let v1090 : BitVec 32 := Scalar.addi c0_i32_693 v1089
  v1090.toNat
def k0_dev62 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_695 : BitVec 32 := 31#32
  let v1096 : BitVec 32 := Scalar.addi v2 c31_i32_695
  let c32_i32_696 : BitVec 32 := 32#32
  let c0_i32_697 : BitVec 32 := 0#32
  let v1097 : BitVec 1 := Scalar.cmpi .eq c32_i32_696 c0_i32_697
  let c1_i32_698 : BitVec 32 := 1#32
  let v1098 : BitVec 32 := Scalar.select v1097 c1_i32_698 c32_i32_696
  let v1099 : BitVec 32 := Scalar.remsi v1096 v1098
  let c0_i32_700 : BitVec 32 := 0#32
  let v1101 : BitVec 1 := Scalar.cmpi .slt v1099 c0_i32_700
  let c0_i32_701 : BitVec 32 := 0#32
  let v1102 : BitVec 1 := Scalar.cmpi .slt v1098 c0_i32_701
  let v1103 : BitVec 1 := Scalar.xori v1101 v1102
  let c0_i32_699 : BitVec 32 := 0#32
  let v1100 : BitVec 1 := Scalar.cmpi .ne v1099 c0_i32_699
  let v1104 : BitVec 1 := Scalar.andi v1103 v1100
  let v1105 : BitVec 32 := Scalar.addi v1099 v1098
  let v1106 : BitVec 32 := Scalar.select v1104 v1105 v1099
  let c1_i32_704 : BitVec 32 := 1#32
  let v1107 : BitVec 32 := Scalar.muli v1106 c1_i32_704
  let v1108 : BitVec 32 := Scalar.addi c0_i32_705 v1107
  v1108.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_708 : BitVec 32 := 16#32
  let v1118 : BitVec 32 := Scalar.muli v2 c16_i32_708
  let v1119 : Index := Scalar.indexCast v1118
  let c0_709 : Index := 0#32
  ![v1119.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x1 : Shape := ⟨2, ![512, 1]⟩
abbrev S128x256x512 : Shape := ⟨3, ![128, 256, 512]⟩
abbrev S_ : Shape := ⟨0, ![]⟩
abbrev S128 : Shape := ⟨1, ![128]⟩
abbrev S512x512 : Shape := ⟨2, ![512, 512]⟩
abbrev S1x1 : Shape := ⟨2, ![1, 1]⟩
abbrev S1 : Shape := ⟨1, ![1]⟩
abbrev S1x256 : Shape := ⟨2, ![1, 256]⟩
abbrev S256 : Shape := ⟨1, ![256]⟩
abbrev S1x256x512 : Shape := ⟨3, ![1, 256, 512]⟩
abbrev S256x512 : Shape := ⟨2, ![256, 512]⟩
abbrev S512 : Shape := ⟨1, ![512]⟩

abbrev nBuf : Space → Nat
  | .hbm => 114
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x1, .i32⟩
  | .hbm, ⟨3, _⟩ => ⟨S128x256x512, .f32⟩
  | .hbm, ⟨4, _⟩ => ⟨S_, .i32⟩
  | .hbm, ⟨5, _⟩ => ⟨S128, .i32⟩
  | .hbm, ⟨6, _⟩ => ⟨S_, .f32⟩
  | .hbm, ⟨7, _⟩ => ⟨S512x512, .f32⟩
  | .hbm, ⟨8, _⟩ => ⟨S_, .i32⟩
  | .hbm, ⟨9, _⟩ => ⟨S_, .i32⟩
  | .hbm, ⟨10, _⟩ => ⟨S512x1, .i32⟩
  | .hbm, ⟨11, _⟩ => ⟨S512x256, .f32⟩
  | .hbm, ⟨12, _⟩ => ⟨S128x256x512, .f32⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S512x512, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x1, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i1⟩
  | .hbm, ⟨41, _⟩ => ⟨S_, .i1⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x256, .f32⟩
  | .hbm, ⟨67, _⟩ => ⟨S256, .f32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1x256x512, .f32⟩
  | .hbm, ⟨90, _⟩ => ⟨S256x512, .f32⟩
  | .hbm, ⟨91, _⟩ => ⟨S512, .f32⟩
  | .hbm, ⟨92, _⟩ => ⟨S_, .f32⟩
  | .hbm, ⟨93, _⟩ => ⟨S_, .f32⟩
  | .hbm, ⟨94, _⟩ => ⟨S512, .f32⟩
  | .hbm, ⟨95, _⟩ => ⟨S512, .f32⟩
  | .hbm, ⟨96, _⟩ => ⟨S_, .i32⟩
  | .hbm, ⟨97, _⟩ => ⟨S_, .i32⟩
  | .hbm, ⟨98, _⟩ => ⟨S_, .i1⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S1, .i32⟩
  | .hbm, ⟨103, _⟩ => ⟨S128, .i32⟩
  | .hbm, ⟨104, _⟩ => ⟨S_, .i32⟩
  | .hbm, ⟨105, _⟩ => ⟨S_, .i1⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S1, .i32⟩
  | .hbm, ⟨111, _⟩ => ⟨S512x512, .f32⟩
  | .hbm, ⟨112, _⟩ => ⟨S_, .i32⟩
  | .hbm, ⟨113, _⟩ => ⟨S_, .i32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c_0 : Ref sig .tc := ⟨.hbm, 8, rfl⟩
abbrev main_c_1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_while0c_c_8 : Ref sig .tc := ⟨.hbm, 17, rfl⟩
abbrev main_while0c_v3 : Ref sig .tc := ⟨.hbm, 18, rfl⟩
abbrev main_while0b_c_8 : Ref sig .tc := ⟨.hbm, 19, rfl⟩
abbrev main_while0b_v3 : Ref sig .tc := ⟨.hbm, 20, rfl⟩
abbrev main_while0b_v4 : Ref sig .tc := ⟨.hbm, 21, rfl⟩
abbrev main_while0b_c_9 : Ref sig .tc := ⟨.hbm, 22, rfl⟩
abbrev main_while0b_v5 : Ref sig .tc := ⟨.hbm, 23, rfl⟩
abbrev main_while0b_c_10 : Ref sig .tc := ⟨.hbm, 24, rfl⟩
abbrev main_while0b_v6 : Ref sig .tc := ⟨.hbm, 25, rfl⟩
abbrev main_while0b_v7 : Ref sig .tc := ⟨.hbm, 26, rfl⟩
abbrev main_while0b_c_11 : Ref sig .tc := ⟨.hbm, 27, rfl⟩
abbrev main_while0b_c_12 : Ref sig .tc := ⟨.hbm, 28, rfl⟩
abbrev main_while0b_v8 : Ref sig .tc := ⟨.hbm, 29, rfl⟩
abbrev main_while0b_c_13 : Ref sig .tc := ⟨.hbm, 30, rfl⟩
abbrev main_while0b_c_14 : Ref sig .tc := ⟨.hbm, 31, rfl⟩
abbrev main_while0b_v9 : Ref sig .tc := ⟨.hbm, 32, rfl⟩
abbrev main_while0b_c_15 : Ref sig .tc := ⟨.hbm, 33, rfl⟩
abbrev main_while0b_v10 : Ref sig .tc := ⟨.hbm, 34, rfl⟩
abbrev main_while0b_v11 : Ref sig .tc := ⟨.hbm, 35, rfl⟩
abbrev main_while0b_v12 : Ref sig .tc := ⟨.hbm, 36, rfl⟩
abbrev main_while0b_c_16 : Ref sig .tc := ⟨.hbm, 37, rfl⟩
abbrev main_while0b_v13 : Ref sig .tc := ⟨.hbm, 38, rfl⟩
abbrev main_while0b_c_17 : Ref sig .tc := ⟨.hbm, 39, rfl⟩
abbrev main_while0b_v14 : Ref sig .tc := ⟨.hbm, 40, rfl⟩
abbrev main_while0b_v15 : Ref sig .tc := ⟨.hbm, 41, rfl⟩
abbrev main_while0b_c_18 : Ref sig .tc := ⟨.hbm, 42, rfl⟩
abbrev main_while0b_v16 : Ref sig .tc := ⟨.hbm, 43, rfl⟩
abbrev main_while0b_c_19 : Ref sig .tc := ⟨.hbm, 44, rfl⟩
abbrev main_while0b_v17 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_c_20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_v23 : Ref sig .tc := ⟨.hbm, 52, rfl⟩
abbrev main_while0b_c_21 : Ref sig .tc := ⟨.hbm, 53, rfl⟩
abbrev main_while0b_v24 : Ref sig .tc := ⟨.hbm, 54, rfl⟩
abbrev main_while0b_c_22 : Ref sig .tc := ⟨.hbm, 55, rfl⟩
abbrev main_while0b_v25 : Ref sig .tc := ⟨.hbm, 56, rfl⟩
abbrev main_while0b_v26 : Ref sig .tc := ⟨.hbm, 57, rfl⟩
abbrev main_while0b_c_23 : Ref sig .tc := ⟨.hbm, 58, rfl⟩
abbrev main_while0b_c_24 : Ref sig .tc := ⟨.hbm, 59, rfl⟩
abbrev main_while0b_v27 : Ref sig .tc := ⟨.hbm, 60, rfl⟩
abbrev main_while0b_c_25 : Ref sig .tc := ⟨.hbm, 61, rfl⟩
abbrev main_while0b_c_26 : Ref sig .tc := ⟨.hbm, 62, rfl⟩
abbrev main_while0b_v28 : Ref sig .tc := ⟨.hbm, 63, rfl⟩
abbrev main_while0b_c_27 : Ref sig .tc := ⟨.hbm, 64, rfl⟩
abbrev main_while0b_v29 : Ref sig .tc := ⟨.hbm, 65, rfl⟩
abbrev main_while0b_v30 : Ref sig .tc := ⟨.hbm, 66, rfl⟩
abbrev main_while0b_v31 : Ref sig .tc := ⟨.hbm, 67, rfl⟩
abbrev main_while0b_c_28 : Ref sig .tc := ⟨.hbm, 68, rfl⟩
abbrev main_while0b_v32 : Ref sig .tc := ⟨.hbm, 69, rfl⟩
abbrev main_while0b_c_29 : Ref sig .tc := ⟨.hbm, 70, rfl⟩
abbrev main_while0b_v33 : Ref sig .tc := ⟨.hbm, 71, rfl⟩
abbrev main_while0b_v34 : Ref sig .tc := ⟨.hbm, 72, rfl⟩
abbrev main_while0b_c_30 : Ref sig .tc := ⟨.hbm, 73, rfl⟩
abbrev main_while0b_c_31 : Ref sig .tc := ⟨.hbm, 74, rfl⟩
abbrev main_while0b_v35 : Ref sig .tc := ⟨.hbm, 75, rfl⟩
abbrev main_while0b_c_32 : Ref sig .tc := ⟨.hbm, 76, rfl⟩
abbrev main_while0b_c_33 : Ref sig .tc := ⟨.hbm, 77, rfl⟩
abbrev main_while0b_v36 : Ref sig .tc := ⟨.hbm, 78, rfl⟩
abbrev main_while0b_c_34 : Ref sig .tc := ⟨.hbm, 79, rfl⟩
abbrev main_while0b_v37 : Ref sig .tc := ⟨.hbm, 80, rfl⟩
abbrev main_while0b_c_35 : Ref sig .tc := ⟨.hbm, 81, rfl⟩
abbrev main_while0b_c_36 : Ref sig .tc := ⟨.hbm, 82, rfl⟩
abbrev main_while0b_v38 : Ref sig .tc := ⟨.hbm, 83, rfl⟩
abbrev main_while0b_c_37 : Ref sig .tc := ⟨.hbm, 84, rfl⟩
abbrev main_while0b_c_38 : Ref sig .tc := ⟨.hbm, 85, rfl⟩
abbrev main_while0b_v39 : Ref sig .tc := ⟨.hbm, 86, rfl⟩
abbrev main_while0b_c_39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_cst_40 : Ref sig .tc := ⟨.hbm, 92, rfl⟩
abbrev main_while0b_call0_v0 : Ref sig .tc := ⟨.hbm, 93, rfl⟩
abbrev main_while0b_call0_v1 : Ref sig .tc := ⟨.hbm, 94, rfl⟩
abbrev main_while0b_v44 : Ref sig .tc := ⟨.hbm, 95, rfl⟩
abbrev main_while0b_v45 : Ref sig .tc := ⟨.hbm, 96, rfl⟩
abbrev main_while0b_c_41 : Ref sig .tc := ⟨.hbm, 97, rfl⟩
abbrev main_while0b_v46 : Ref sig .tc := ⟨.hbm, 98, rfl⟩
abbrev main_while0b_c_42 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_c_43 : Ref sig .tc := ⟨.hbm, 104, rfl⟩
abbrev main_while0b_v51 : Ref sig .tc := ⟨.hbm, 105, rfl⟩
abbrev main_while0b_c_44 : Ref sig .tc := ⟨.hbm, 106, rfl⟩
abbrev main_while0b_v52 : Ref sig .tc := ⟨.hbm, 107, rfl⟩
abbrev main_while0b_v53 : Ref sig .tc := ⟨.hbm, 108, rfl⟩
abbrev main_while0b_v54 : Ref sig .tc := ⟨.hbm, 109, rfl⟩
abbrev main_while0b_v55 : Ref sig .tc := ⟨.hbm, 110, rfl⟩
abbrev main_while0b_v56 : Ref sig .tc := ⟨.hbm, 111, rfl⟩
abbrev main_while0b_c_45 : Ref sig .tc := ⟨.hbm, 112, rfl⟩
abbrev main_while0b_v57 : Ref sig .tc := ⟨.hbm, 113, rfl⟩

abbrev nD : Nat := 1
abbrev τ : Topo := Topo.v7x

variable {F : FTy → Type} [FloatOps F]

abbrev main_while0_count : Scf.Loop 32 := ⟨0#32, 512#32, 1#32⟩
-- ==== Proof.KI.Shape.lean ====
/- The kernel's body as a short program: 31 signals, the local product, the barrier wait, 31 addressed copies, the 31
   receive waits, the combine and the 31 send waits, each run of 31 a fold over its index. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Hand

open Cert.KernelIdeal Cert.KernelIdeal.Gen
open Idealize.ShloMosaic Idealize.SL.Sem

variable {F : FTy → Type} [FloatOps F]

/-- The device the `k`-th signal addresses, as the kernel computes it. -/
def sigDev (d : Dev nD) (k : Fin 31) : Dev nD :=
  (![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩, ⟨k0_dev31 d, k0_dev31_lt d⟩] : Fin 31 → Dev nD) k
/-- The device the `k`-th copy addresses, as the kernel computes it. -/
def cpyDev (d : Dev nD) (k : Fin 31) : Dev nD :=
  (![⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩, ⟨k0_dev48 d, k0_dev48_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩, ⟨k0_dev62 d, k0_dev62_lt d⟩] : Fin 31 → Dev nD) k

/-- The device `k + 1` places after `d` on the ring of 32. -/
def dst (d : Dev nD) (k : Fin 31) : Dev nD := ⟨(d.val + (k.val + 1)) % 32, Nat.mod_lt _ (by decide)⟩
/-- The device `k + 1` places before `d`. -/
def src (d : Dev nD) (k : Fin 31) : Dev nD := ⟨(d.val + (31 - k.val)) % 32, Nat.mod_lt _ (by decide)⟩

theorem sigDev_eq : ∀ (d : Dev nD) (k : Fin 31), sigDev d k = dst d k := by decide +kernel
theorem cpyDev_eq : ∀ (d : Dev nD) (k : Fin 31), cpyDev d k = dst d k := by decide +kernel

theorem inbSlot (k : Fin 32) : ∀ a, (![16 * k.val, 0] : Fin 2 → Nat) a + S16x512.size a ≤ S512x512.size a := by
  revert k; decide
theorem inbSem (k : Fin 31) : ∀ a, (![k.val] : Fin 1 → Nat) a + S1.size a ≤ S31.size a := by
  revert k; decide
/-- The rows of slot `k` of the gather buffer. -/
abbrev slotRect (k : Fin 32) : Rect S512x512 := Rect.unit (s := S512x512) ![16 * k.val, 0] S16x512.size (inbSlot k)
theorem slotWords (k : Fin 32) : (slotRect k).WholeWords (EltTy.packing .bf16) := by
  revert k; decide
/-- Slot `k` of the gather buffer: its rows `16 k … 16 k + 15`. -/
abbrev slotOf (g : Memref sig .tc .vmem S512x512 .bf16) (k : Fin 32) : Memref sig .tc .vmem S16x512 .bf16 :=
  g.slice (slotRect k) (fun _ => rfl)
/-- Semaphore `k` of an array of 31. -/
abbrev semOf (q : DmaSems sig S31) (k : Fin 31) : DmaSems sig S_ :=
  (q.slice (Rect.unit (s := S31) ![k.val] S1.size (inbSem k))).squeeze S_ squeezes_S1_S_

abbrev Kp := Prog (TpuEff nD τ sig (Elt F) Λ₀ .tc) PUnit

/-- The runtime's barrier semaphore. -/
abbrev barS : Sem sig := (SemArray.scalar (sig.barrier 0 rfl) : Sems sig S_).sem

/-- The signals of the indices `l`, then `K`. -/
abbrev sigStep (d : Dev nD) (k : Fin 31) (K : Kp (F := F)) : Kp (F := F) :=
  .op (.semSignal (sigDev d k, .tc) barS 1) fun _ => K
def sigs (d : Dev nD) (l : List (Fin 31)) (K : Kp (F := F)) : Kp (F := F) := l.foldr (sigStep d) K

section Steps
variable (y : Memref sig .tc .vmem S16x512 .bf16) (hy : y.IsWhole) (g : Memref sig .tc .vmem S512x512 .bf16) (hg : g.IsWhole) (qs qr : DmaSems sig S31)

/-- The copy of `y` into slot `k` of device `n`, then `K`. -/
def sendTo (n : Dev nD) (k : Fin 31) (K : Kp (F := F)) : Kp (F := F) :=
  .op (.enqueueDma y (.remote (Dev.tc n) (slotOf g k.castSucc) (.dma (semOf qs k).sem)) (.dma (semOf qr k).sem)
      hy.wordExact (hg.wordExact_slice rfl _ (slotWords k.castSucc)) ⟨⟨rfl, Or.inl rfl⟩, trivial⟩) fun _ => K
/-- The copy to the `k`-th peer, then `K`. -/
def sendStep (d : Dev nD) (k : Fin 31) (K : Kp (F := F)) : Kp (F := F) := sendTo y hy g hg qs qr (cpyDev d k) k K
def sends (d : Dev nD) (l : List (Fin 31)) (K : Kp (F := F)) : Kp (F := F) := l.foldr (sendStep y hy g hg qs qr d) K

/-- The wait for what lands in slot `k`, then `K`. -/
abbrev recvStep (k : Fin 31) (K : Kp (F := F)) : Kp (F := F) :=
  .op (.waitDma2 (semOf qr k).sem y (slotOf g k.castSucc) hy.wordExact (hg.wordExact_slice rfl _ (slotWords k.castSucc))) fun _ => K
def recvs (l : List (Fin 31)) (K : Kp (F := F)) : Kp (F := F) := l.foldr (recvStep y hy g hg qr) K

/-- The wait for the `k`-th of the device's own copies to have been read, then `K`. -/
abbrev departStep (k : Fin 31) (K : Kp (F := F)) : Kp (F := F) :=
  .op (.waitDma2 (semOf qs k).sem (slotOf g k.castSucc) y (hg.wordExact_slice rfl _ (slotWords k.castSucc)) hy.wordExact) fun _ => K
def departs (l : List (Fin 31)) (K : Kp (F := F)) : Kp (F := F) := l.foldr (departStep y hy g hg qs) K

end Steps

/-- The device's place on the ring, as a word. -/
def place (d : Dev nD) : BitVec 32 := Scalar.remsi (Scalar.divsi (Dev.word d) 1#32) 32#32

/-- The mask `[expert of the row = expert of the token]` with the rank test's: `k0_pay4` and `k0_pay5` at the indices read. -/
def rowMask (d : Dev nD) (v : Vec F S512x1 .i32) : IVec S16x512 1 :=
  k0_pay4 (place d) (k0_pay1 v) (iota .tc S16x512 32 [0] iota_S16x512_d0_w32) 3#32 k0_pay3 0#32
def rankMask (d : Dev nD) (v : Vec F S512x1 .i32) : IVec S16x512 1 :=
  k0_pay5 (k0_pay2 (place d) v) (iota .tc S16x512 32 [0] iota_S16x512_d0_w32)

/-- The device's products, rounded: what it stores and sends. -/
def yVal (d : Dev nD) (v : Vec F S512x1 .i32) (x : Vec F S512x256 .f32) (w0 w1 w2 w3 : Vec F S1x256x512 .f32) : FVec F S16x512 .bf16 :=
  k0_pay12 (k0_pay6 (iota .tc S16x512 32 [0] iota_S16x512_d0_w32) (rowMask d v) (rankMask d v) x) k0_pay7 (k0_pay8 (F := F))
    (k0_pay9 (iota .tc S16x512 32 [0] iota_S16x512_d0_w32) (rowMask d v) (rankMask d v) x) (k0_pay10 w0) w1 w2 w3

/-- The combine matrix of the device's 16 tokens. -/
def dmat (d : Dev nD) (v : Vec F S512x1 .i32) (v' : Vec F S16x1 .i32) : FVec F S16x512 .bf16 :=
  k0_pay23 (k0_pay14 v') (k0_pay16 (F := F) (k0_pay15 (place d) (k0_pay1 v) v')) k0_pay18
    (k0_pay20 (place d) k0_pay17 k0_pay19) (k0_pay21 k0_pay18) (k0_pay22 k0_pay18)

/-- What follows the copies: the device's own products into the last slot, the receive waits, the combine, the send waits. -/
def tail (d : Dev nD) (v : Vec F S512x1 .i32) (yv : FVec F S16x512 .bf16)
    (arg1 : Memref sig .tc .vmem S512x1 .i32) (arg3 : Memref sig .tc .vmem S16x512 .f32) (y : Memref sig .tc .vmem S16x512 .bf16) (hy : y.IsWhole)
    (g : Memref sig .tc .vmem S512x512 .bf16) (hg : g.IsWhole) (qs qr : DmaSems sig S31) : Kp (F := F) :=
  .op (.load g (Rect.unit (s := S512x512) ![496, 0] S16x512.size inb_S512x512_S16x512_496_0).toLoadRect (View.loadsAt_vmem h_S16x512)) fun _ =>
  .op (.store g (Rect.unit (s := S512x512) ![496, 0] S16x512.size inb_S512x512_S16x512_496_0) yv Finset.univ
    (View.stores_vmem h_S16x512 (hg.storeExact_slice rfl _ packedbf16_S512x512_S16x512_496_0) (fun _ => rfl)) (.inl rfl)) fun _ =>
  .op (.load arg1 (Rect.unit (s := S512x1) (k0_off1 d) S16x1.size (k0_off1_inb d)).toLoadRect (View.loadsAt_vmem h_S16x1)) fun v' =>
  recvs y hy g hg qr (List.finRange 31) <|
  .op (.load g (Rect.unit (s := S512x512) ![0, 0] S512x512.size inb_S512x512_S512x512_0_0).toLoadRect (View.loadsAt_vmem h_S512x512)) fun G =>
  .op (.load arg3 (Rect.unit (s := S16x512) ![0, 0] S16x512.size inb_S16x512_S16x512_0_0).toLoadRect (View.loadsAt_vmem h_S16x512)) fun _ =>
  .op (.store arg3 (Rect.unit (s := S16x512) ![0, 0] S16x512.size inb_S16x512_S16x512_0_0) (k0_pay24 (dmat d v v') G) Finset.univ
    (View.stores_vmem_bits_univ h_S16x512 rfl) (.inl rfl)) fun _ =>
  departs y hy g hg qs (List.finRange 31) <| .ret ⟨⟩

/-- The whole body. -/
def bodyS (arg0 : Memref sig .tc .vmem S512x256 .f32) (arg1 : Memref sig .tc .vmem S512x1 .i32) (arg2 : Memref sig .tc .vmem S4x256x512 .f32)
    (arg3 : Memref sig .tc .vmem S16x512 .f32) (y : Memref sig .tc .vmem S16x512 .bf16) (hy : y.IsWhole)
    (g : Memref sig .tc .vmem S512x512 .bf16) (hg : g.IsWhole) (qs qr : DmaSems sig S31) : Kp (F := F) :=
  .op .deviceId fun d => sigs d (List.finRange 31) <|
  .op (.load arg1 (Rect.unit (s := S512x1) ![0, 0] S512x1.size inb_S512x1_S512x1_0_0).toLoadRect (View.loadsAt_vmem h_S512x1)) fun v =>
  .op (.load arg0 (Rect.unit (s := S512x256) ![0, 0] S512x256.size inb_S512x256_S512x256_0_0).toLoadRect (View.loadsAt_vmem h_S512x256)) fun x =>
  .op (.load arg2 (Rect.unit (s := S4x256x512) ![0, 0, 0] S1x256x512.size inb_S4x256x512_S1x256x512_0_0_0).toLoadRect (View.loadsAt_vmem h_S1x256x512)) fun w0 =>
  .op (.load arg2 (Rect.unit (s := S4x256x512) ![1, 0, 0] S1x256x512.size inb_S4x256x512_S1x256x512_1_0_0).toLoadRect (View.loadsAt_vmem h_S1x256x512)) fun w1 =>
  .op (.load arg2 (Rect.unit (s := S4x256x512) ![2, 0, 0] S1x256x512.size inb_S4x256x512_S1x256x512_2_0_0).toLoadRect (View.loadsAt_vmem h_S1x256x512)) fun w2 =>
  .op (.load arg2 (Rect.unit (s := S4x256x512) ![3, 0, 0] S1x256x512.size inb_S4x256x512_S1x256x512_3_0_0).toLoadRect (View.loadsAt_vmem h_S1x256x512)) fun w3 =>
  .op (.load y (Rect.unit (s := S16x512) ![0, 0] S16x512.size inb_S16x512_S16x512_0_0).toLoadRect (View.loadsAt_vmem h_S16x512)) fun _ =>
  .op (.store y (Rect.unit (s := S16x512) ![0, 0] S16x512.size inb_S16x512_S16x512_0_0) (yVal d v x w0 w1 w2 w3) Finset.univ
    (View.stores_vmem h_S16x512 (hy.storeExact_slice rfl _ packedbf16_S16x512_S16x512_0_0) (fun _ => rfl)) (.inl rfl)) fun _ =>
  .op (.semWait barS 31) fun _ =>
  sends y hy g hg qs qr d (List.finRange 31) <| tail d v (yVal d v x w0 w1 w2 w3) arg1 arg3 y hy g hg qs qr

set_option maxRecDepth 65536 in
set_option maxHeartbeats 4000000 in
/-- The printed body is that program, by definitional unfolding. -/
theorem body_eq (arg0 : Memref sig .tc .vmem S512x256 .f32) (h0 : arg0.IsWhole) (arg1 : Memref sig .tc .vmem S512x1 .i32) (h1 : arg1.IsWhole)
    (arg2 : Memref sig .tc .vmem S4x256x512 .f32) (h2 : arg2.IsWhole) (arg3 : Memref sig .tc .vmem S16x512 .f32) (h3 : arg3.IsWhole)
    (y : Memref sig .tc .vmem S16x512 .bf16) (hy : y.IsWhole) (g : Memref sig .tc .vmem S512x512 .bf16) (hg : g.IsWhole) (qs qr : DmaSems sig S31) :
    cc0_body (F := F) arg0 h0 arg1 h1 arg2 h2 arg3 h3 y hy g hg qs qr = bodyS arg0 arg1 arg2 arg3 y hy g hg qs qr := by
  rw [cc0_body_eq_skeleton]
  rfl

end Cert.KernelIdeal.Hand

end
-- ==== Proof.KI.Protocol.lean ====
/- The exchange among the 32 devices as a schedule of duties: who signals and who copies into which cell, and what each
   signal and each landing hands over. -/
module

public import proofs.«01_k».proof.Proof.KI.Shape
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, its duties named by the 31 peers -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def st0 : MemSt nD τ sig (Elt F) := ⟨m, fun _ => 0, ρ⟩

/-! ## The peers -/

/-- The index of the same pair seen from the other end: `c` is the `rev k`-th peer of its `k`-th peer. -/
def rev (k : Fin 31) : Fin 31 := ⟨30 - k.val, by omega⟩

theorem rev_rev (k : Fin 31) : rev (rev k) = k := by revert k; decide
theorem dst_rev : ∀ (c : Dev nD) (k : Fin 31), dst (dst c k) (rev k) = c := by decide +kernel
theorem src_dst : ∀ (c : Dev nD) (k : Fin 31), src (dst c k) k = c := by decide +kernel
theorem dst_src : ∀ (c : Dev nD) (k : Fin 31), dst (src c k) k = c := by decide +kernel

/-! ## The buffers and cells -/

abbrev xM : Memref sig .tc .vmem S512x256 .f32 := Memref.whole cc0_stg0_0
abbrev iM : Memref sig .tc .vmem S512x1 .i32 := Memref.whole cc0_stg1_0
abbrev eM : Memref sig .tc .vmem S4x256x512 .f32 := Memref.whole cc0_stg2_0
abbrev oM : Memref sig .tc .vmem S16x512 .f32 := Memref.whole cc0_stg3_0
abbrev yM : Memref sig .tc .vmem S16x512 .bf16 := Memref.whole cc0_scratch0
abbrev gM : Memref sig .tc .vmem S512x512 .bf16 := Memref.whole cc0_scratch1
abbrev slot (k : Fin 32) : Memref sig .tc .vmem S16x512 .bf16 := slotOf gM k

/-- The three kinds of cell of one device: its barrier, the 31 it sends on, the 31 it receives on. -/
abbrev CK : Type := Unit ⊕ Fin 31 ⊕ Fin 31
abbrev csem : CK → SemLoc sig
  | .inl _ => .reg barS
  | .inr (.inl k) => .dma (semOf cc0_scratch2 k).sem
  | .inr (.inr k) => .dma (semOf cc0_scratch3 k).sem
abbrev kcell (ck : Dev nD × CK) : GSem nD τ sig := ((ck.1 : Thread nD τ), csem ck.2)

abbrev barCell (c : Dev nD) : GSem nD τ sig := kcell (c, .inl ())
abbrev sendCell (c : Dev nD) (k : Fin 31) : GSem nD τ sig := kcell (c, .inr (.inl k))
abbrev recvCell (c : Dev nD) (k : Fin 31) : GSem nD τ sig := kcell (c, .inr (.inr k))

/-- Every cell of a device, in a list. -/
def ckList : List CK := .inl () :: ((List.finRange 31).map fun k => .inr (.inl k)) ++ ((List.finRange 31).map fun k => .inr (.inr k))
/-- Which of a device's cells a semaphore is. -/
def cls (s : SemLoc sig) : Option CK := ckList.find? fun k => decide (csem k = s)

theorem cls_csem : ∀ k : CK, cls (csem k) = some k := by decide +kernel
theorem csem_injective : Function.Injective csem := fun a b h => by
  have := congrArg cls h
  rw [cls_csem, cls_csem] at this
  exact Option.some.inj this
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The units of one copy's landing. -/
abbrev N : ℕ := (yM : Memref sig .tc .vmem S16x512 .bf16).view.dmaCredit
theorem N_pos : 0 < N := View.dmaCredit_pos _ (by decide)

/-! ## The contents -/

/-- What the pipeline stages on device `c`: all of `x`, all of `route_idx`, its four experts' weights. -/
def xstg (c : Dev nD) : (cc0_stg0_0 : Ref sig .tc).ty.Contents (Elt F) :=
  (win0_0.blk (0 : Fin 1)).view.read (Elt F) ((st0 m ρ).mem ((c : Thread nD τ).loc main_arg0))
def istg (c : Dev nD) : (cc0_stg1_0 : Ref sig .tc).ty.Contents (Elt F) :=
  (win0_1.blk (0 : Fin 1)).view.read (Elt F) ((st0 m ρ).mem ((c : Thread nD τ).loc main_arg2))
def estg (c : Dev nD) : (cc0_stg2_0 : Ref sig .tc).ty.Contents (Elt F) :=
  (win0_2.blk (0 : Fin 1)).view.read (Elt F) ((st0 m ρ).mem ((c : Thread nD τ).loc main_arg3))

/-- Expert `s`'s weights as the body loads them. -/
abbrev eRd (off : Fin 3 → ℕ) (h : ∀ a, off a + S1x256x512.size a ≤ S4x256x512.size a) (f : (cc0_stg2_0 : Ref sig .tc).ty.Contents (Elt F)) :
    Vec F S1x256x512 .f32 := (eM : Memref sig .tc .vmem S4x256x512 .f32).view.readAt (Elt F) (Rect.unit (s := S4x256x512) off S1x256x512.size h).toLoadRect f

/-- The products device `c` stores and sends. -/
def yAt (c : Dev nD) : FVec F S16x512 .bf16 :=
  yVal c (istg m ρ c) (xstg m ρ c) (eRd ![0, 0, 0] inb_S4x256x512_S1x256x512_0_0_0 (estg m ρ c)) (eRd ![1, 0, 0] inb_S4x256x512_S1x256x512_1_0_0 (estg m ρ c))
    (eRd ![2, 0, 0] inb_S4x256x512_S1x256x512_2_0_0 (estg m ρ c)) (eRd ![3, 0, 0] inb_S4x256x512_S1x256x512_3_0_0 (estg m ρ c))

/-- The device whose products slot `u` of device `c`'s gather buffer receives: its own in the last. -/
def owner (c : Dev nD) (u : Fin 32) : Dev nD := ⟨(c.val + (31 - u.val)) % 32, Nat.mod_lt _ (by decide)⟩

theorem owner_castSucc (c : Dev nD) (k : Fin 31) : owner c k.castSucc = src c k := rfl
theorem owner_last (c : Dev nD) : owner c (Fin.last 31) = c := by revert c; decide

/-- A row and column of the gather buffer, within its slot. -/
def inSlot (i : S512x512.Idx) : S16x512.Idx := Fin.cons ⟨(i 0).val % 16, Nat.mod_lt _ (by decide)⟩ (Fin.cons (i 1) (fun a => a.elim0))
/-- The slot a row of the gather buffer lies in. -/
def slotIx (i : S512x512.Idx) : Fin 32 := ⟨(i 0).val / 16, by have h : (i 0).val < 512 := (i 0).isLt; omega⟩

/-- Device `c`'s gather buffer once everything has landed. -/
def gathered (c : Dev nD) : (cc0_scratch1 : Ref sig .tc).ty.Contents (Elt F) := fun i => yAt m ρ (owner c (slotIx i)) (inSlot i)

/-- The indices of device `c`'s own 16 tokens. -/
def ownIdx (c : Dev nD) : Vec F S16x1 .i32 :=
  (iM : Memref sig .tc .vmem S512x1 .i32).view.readAt (Elt F) (Rect.unit (s := S512x1) (k0_off1 c) S16x1.size (k0_off1_inb c)).toLoadRect (istg m ρ c)

/-- Device `c`'s block of the result. -/
def outAt (c : Dev nD) : (cc0_stg3_0 : Ref sig .tc).ty.Contents (Elt F) :=
  k0_pay24 (dmat c (istg m ρ c) (ownIdx m ρ c)) (gathered m ρ c)

/-- Slot `k` of device `n`'s gather buffer, held at `f`. -/
def slotPts (n : Dev nD) (k : Fin 32) (f : Buf (Elt F) ((slot k).view.loc (n : Thread nD τ))) : sProp 𝕄 :=
  (slot k).view.loc (n : Thread nD τ) ↦[(slot k).view.set]{fullShare} f
/-- Share `k` of device `c`'s stored products. -/
def yPts (c : Dev nD) (k : Fin 31) : sProp 𝕄 :=
  (yM : Memref sig .tc .vmem S16x512 .bf16).view.loc (c : Thread nD τ) ↦[(yM : Memref sig .tc .vmem S16x512 .bf16).view.set]{Transfers.shareTok fullShare 31 k} yAt m ρ c

omit [FloatOps F] in
instance slotPts_storable (n : Dev nD) (k) (f) : BI.Storable (upEmb : UEmb _ 𝕄) (slotPts (F := F) n k f) := by unfold slotPts; infer_instance
instance yPts_storable (c : Dev nD) (k) : BI.Storable (upEmb : UEmb _ 𝕄) (yPts (F := F) m ρ c k) := by unfold yPts; infer_instance

/-- What lands in slot `k` of device `n` is the slot's part of the gathered contents. -/
theorem landed_eq (n : Dev nD) (k : Fin 32) (o : Dev nD) (ho : owner n k = o) (fd : (cc0_scratch1 : Ref sig .tc).ty.Contents (Elt F)) :
    ∀ i ∈ (slot k).view.set, (slot k).view.write (Elt F) fd (yAt m ρ o) Finset.univ i = gathered m ρ n i := by
  intro i hi
  obtain ⟨x, rfl⟩ : ∃ x : S16x512.Idx, (slot k).view.emb x = i := by
    have h := hi; unfold View.set at h
    obtain ⟨x, -, hx⟩ := Finset.mem_map.mp h
    exact ⟨x, hx⟩
  rw [View.write_emb_of_mem _ _ (Finset.mem_univ x)]
  have h0 : (((slot k).view.emb x) 0).val = 16 * k.val + (x 0).val := by
    show 16 * k.val + 1 * (x 0).val = _; omega
  have h1 : (((slot k).view.emb x) 1).val = (x 1).val := by
    show 0 + 1 * (x 1).val = _; omega
  have hx0 : (x 0).val < 16 := (x 0).isLt
  unfold gathered
  have e1 : slotIx ((slot k).view.emb x) = k := Fin.ext (by show (((slot k).view.emb x) 0).val / 16 = _; rw [h0]; omega)
  have e2 : inSlot ((slot k).view.emb x) = x := by
    funext a
    fin_cases a
    · exact Fin.ext (by show (((slot k).view.emb x) 0).val % 16 = _; rw [h0]; show _ = (x 0).val; omega)
    · exact Fin.ext h1
  rw [e1, e2, ho]
  rfl

/-! ## The schedule -/

/-- What the `d`-th peer's signal hands device `c`: slot `d` of that peer's gather buffer, and that the peer's `d`-th receive
    cell is at its round. -/
def barPay (c : Dev nD) (d : Fin 31) : sProp 𝕄 := iprop((∃ f, slotPts (dst c d) d.castSucc f) ∗ reached ER (recvCell (dst c d) d) 0)
def recvPay (c : Dev nD) (k : Fin 31) : sProp 𝕄 := slotPts c k.castSucc (gathered m ρ c)
def sendPay (c : Dev nD) (k : Fin 31) : sProp 𝕄 := yPts m ρ c k

/-- One round: a barrier cell has one duty of one unit from each peer; a send or receive cell one duty of a copy's units. -/
def exRd : Rounds.Schedule (GSem nD τ sig) (Fin 31) 𝕄 where
  duties g r := if r = 0 ∧ g.1.2 = .tc then (match cls g.2 with | some (.inl _) => Finset.univ | some (.inr _) => {0} | none => ∅) else ∅
  unitless _ := False
  amount g _ _ := match cls g.2 with | some (.inl _) => 1 | _ => N
  payload g _ d := match cls g.2 with
    | some (.inl _) => barPay g.1.1 d
    | some (.inr (.inl k)) => sendPay m ρ g.1.1 k
    | some (.inr (.inr k)) => recvPay m ρ g.1.1 k
    | none => iprop(emp)
  amount_pos g _ _ _ := by
    split
    · exact Nat.one_pos
    · exact N_pos

instance exRd_payload_storable (g : GSem nD τ sig) (r : ℕ) (d : Fin 31) :
    BI.Storable (upEmb : UEmb _ 𝕄) ((exRd (F := F) m ρ).payload g r d) := by
  show BI.Storable upEmb (match cls g.2 with
    | some (.inl _) => barPay g.1.1 d
    | some (.inr (.inl k)) => sendPay m ρ g.1.1 k
    | some (.inr (.inr k)) => recvPay m ρ g.1.1 k
    | none => iprop(emp))
  unfold barPay recvPay sendPay
  split <;> infer_instance

section Sched
variable (c : Dev nD) (k : Fin 31)

theorem duties_bar : (exRd (F := F) m ρ).duties (barCell c) 0 = Finset.univ := by
  dsimp only [exRd]; rw [if_pos ⟨rfl, rfl⟩, cls_csem]
theorem duties_send : (exRd (F := F) m ρ).duties (sendCell c k) 0 = {0} := by
  dsimp only [exRd]; rw [if_pos ⟨rfl, rfl⟩, cls_csem (.inr (.inl k))]
theorem duties_recv : (exRd (F := F) m ρ).duties (recvCell c k) 0 = {0} := by
  dsimp only [exRd]; rw [if_pos ⟨rfl, rfl⟩, cls_csem (.inr (.inr k))]
theorem duties_later (g : GSem nD τ sig) : ∀ r, 1 ≤ r → (exRd (F := F) m ρ).duties g r = ∅ :=
  fun r hr => by dsimp only [exRd]; exact if_neg fun h => by omega

theorem amount_bar (d : Fin 31) : (exRd (F := F) m ρ).amount (barCell c) 0 d = 1 := by dsimp only [exRd]; rw [cls_csem]
theorem amount_send (d : Fin 31) : (exRd (F := F) m ρ).amount (sendCell c k) 0 d = N := by dsimp only [exRd]; rw [cls_csem (.inr (.inl k))]
theorem amount_recv (d : Fin 31) : (exRd (F := F) m ρ).amount (recvCell c k) 0 d = N := by dsimp only [exRd]; rw [cls_csem (.inr (.inr k))]

theorem expect_bar : (exRd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (exRd (F := F) m ρ).expect (sendCell c k) 0 = N := by
  unfold Schedule.expect Schedule.amountOf; rw [duties_send, Finset.sum_singleton, amount_send]
theorem expect_recv : (exRd (F := F) m ρ).expect (recvCell c k) 0 = N := by
  unfold Schedule.expect Schedule.amountOf; rw [duties_recv, Finset.sum_singleton, amount_recv]

theorem payload_bar (d : Fin 31) : (exRd (F := F) m ρ).payload (barCell c) 0 d = barPay c d := by dsimp only [exRd]; rw [cls_csem]
theorem payload_send (d : Fin 31) : (exRd (F := F) m ρ).payload (sendCell c k) 0 d = sendPay m ρ c k := by dsimp only [exRd]; rw [cls_csem (.inr (.inl k))]
theorem payload_recv (d : Fin 31) : (exRd (F := F) m ρ).payload (recvCell c k) 0 d = recvPay m ρ c k := by dsimp only [exRd]; rw [cls_csem (.inr (.inr k))]

theorem rest_bar : bigSep ((exRd (F := F) m ρ).duties (barCell c) 0 \ ∅) (fun d => (exRd (F := F) m ρ).payload (barCell c) 0 d) = bigSep Finset.univ (barPay c) := by
  rw [Finset.sdiff_empty, duties_bar]; exact bigSep_congr fun d _ => payload_bar m ρ c d
theorem rest_send : bigSep ((exRd (F := F) m ρ).duties (sendCell c k) 0 \ ∅) (fun d => (exRd (F := F) m ρ).payload (sendCell c k) 0 d) = sendPay m ρ c k := by
  rw [Finset.sdiff_empty, duties_send, bigSep_singleton, payload_send]
theorem rest_recv : bigSep ((exRd (F := F) m ρ).duties (recvCell c k) 0 \ ∅) (fun d => (exRd (F := F) m ρ).payload (recvCell c k) 0 d) = recvPay m ρ c k := by
  rw [Finset.sdiff_empty, duties_recv, bigSep_singleton, payload_recv]

end Sched

/-! ## What each core owes at launch; the levels -/

/-- What device `c` owes the barriers of the peers `l`, and the receive cells of the peers `l`. -/
def oBar (c : Dev nD) (l : List (Fin 31)) : CellTallies nD τ sig Unit := l.foldr (fun k O => O + tallyAt (barCell (dst c k)) () 1) 0
def oRcv (c : Dev nD) (l : List (Fin 31)) : CellTallies nD τ sig Unit := l.foldr (fun k O => O + tallyAt (recvCell (dst c k) k) () N) 0
def O₀ (c : Dev nD) : CellTallies nD τ sig Unit := oRcv c (List.finRange 31) + oBar c (List.finRange 31)

def L (g : GSem nD τ sig) : Finset Unit := if g.1.2 = .tc then {()} else ∅
/-- barrier cells at 1, receive cells at 2, everything else at 0. -/
def lv (g : GSem nD τ sig) (_ : Unit) : ℕ := match cls g.2 with | some (.inl _) => 1 | some (.inr (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem oBar_pos {c : Dev nD} {g : GSem nD τ sig} {u : Unit} : ∀ l : List (Fin 31), 0 < oBar c l g u → ∃ k, g = barCell (dst c k)
  | [], h => absurd h (lt_irrefl 0)
  | k :: l, h => by
    by_cases hg : g = barCell (dst c k)
    · exact ⟨k, hg⟩
    · refine oBar_pos (u := u) l ?_
      have : oBar c (k :: l) g u = oBar c l g u + (tallyAt (barCell (dst c k)) () 1 : CellTallies nD τ sig Unit) g u := rfl
      rw [this, tallyAt_apply, if_neg (fun h' => hg h'.1)] at h
      exact h
theorem oRcv_pos {c : Dev nD} {g : GSem nD τ sig} {u : Unit} : ∀ l : List (Fin 31), 0 < oRcv c l g u → ∃ k, g = recvCell (dst c k) k
  | [], h => absurd h (lt_irrefl 0)
  | k :: l, h => by
    by_cases hg : g = recvCell (dst c k) k
    · exact ⟨k, hg⟩
    · refine oRcv_pos (u := u) l ?_
      have : oRcv c (k :: l) g u = oRcv c l g u + (tallyAt (recvCell (dst c k) k) () N : CellTallies nD τ sig Unit) g u := rfl
      rw [this, tallyAt_apply, if_neg (fun h' => hg h'.1)] at h
      exact h
theorem O₀_pos {c : Dev nD} {g : GSem nD τ sig} {u : Unit} (h : 0 < O₀ c g u) :
    (∃ k, g = barCell (dst c k)) ∨ (∃ k, g = recvCell (dst c k) k) := by
  have h' : 0 < oRcv c (List.finRange 31) g u + oBar c (List.finRange 31) g u := h
  rcases Nat.eq_zero_or_pos (oRcv c (List.finRange 31) g u) with h0 | h0
  · rw [h0, Nat.zero_add] at h'; exact .inl (oBar_pos _ h')
  · exact .inr (oRcv_pos _ h0)

theorem lv_bar (c : Dev nD) (u : Unit) : lv (barCell c) u = 1 := by dsimp only [lv]; rw [cls_csem]
theorem lv_recv (c : Dev nD) (k : Fin 31) (u : Unit) : lv (recvCell c k) u = 2 := by dsimp only [lv]; rw [cls_csem (.inr (.inr k))]

/-- A wait on a cell of level 0 is allowed with everything owed. -/
theorem mayWait_stage (c : Dev nD) (q : DmaSem sig) (hq : cls (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [hq])
      (fun g u hg => by
        rcases O₀_pos hg with ⟨k, rfl⟩ | ⟨k, rfl⟩
        · rw [lv_bar]; decide
        · rw [lv_recv]; decide)
  · rw [MayWait_zero]; iintro -; iempintro

/-- At its barrier wait a device owes receive cells only, above its barrier. -/
theorem mayWait_bar (c : Dev nD) :
    (levAts L lv : sProp 𝕄) ⊢ MayWait (c : Thread nD τ) (.reg barS) () (oRcv c (List.finRange 31)) :=
  MayOwe.of_cut (L := L) (lev := lv) 1 (fun p hp => by rw [Finset.mem_singleton.mp hp, L_tc]; exact Finset.mem_singleton_self _)
    (fun g u hg => by obtain ⟨k, rfl⟩ := oRcv_pos _ hg; exact Finset.mem_singleton_self _)
    (fun p hp => by rw [Finset.mem_singleton.mp hp]; exact le_of_eq (lv_bar c _))
    (fun g u hg => by obtain ⟨k, rfl⟩ := oRcv_pos _ hg; rw [lv_recv]; decide)

end Cert.KernelIdeal.Hand

end
-- ==== Proof.KI.Body.lean ====
/- The body of one device: each run of 31 effects by one step lemma and a fold, then the whole body from what the launch deals
   to what the pipeline takes back. -/
module

public import proofs.«01_k».proof.Proof.KI.Protocol
public import Idealize.ShloMosaic.Lib.Ring

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The shared records -/

/-- Every cell's invariant, and that every cell's first round is reached. -/
def records (K : Dev nD × CK → ℕ) : sProp 𝕄 :=
  iprop((bigSep Finset.univ fun ck : Dev nD × CK => cellInv ER (exRd m ρ) (K ck) (kcell ck))
    ∗ bigSep Finset.univ fun ck : Dev nD × CK => reached ER (kcell ck) 0)

instance records_persistent (K : Dev nD × CK → ℕ) : BI.Persistent (records m ρ K) := by unfold records; infer_instance

variable (K : Dev nD × CK → ℕ)

theorem inv_at (ck : Dev nD × CK) : records m ρ K ⊢ cellInv ER (exRd m ρ) (K ck) (kcell ck) := by
  unfold records; iintro ⟨H, -⟩
  iapply (show (bigSep Finset.univ fun ck : Dev nD × CK => (cellInv ER (exRd m ρ) (K ck) (kcell ck) : sProp 𝕄)) ⊢ _ from bigSep_elim (Finset.mem_univ ck))
  iexact H
theorem reached_at (ck : Dev nD × CK) : records m ρ K ⊢ reached ER (kcell ck) 0 := by
  unfold records; iintro ⟨-, H⟩
  iapply (show (bigSep Finset.univ fun ck : Dev nD × CK => (reached ER (kcell ck) 0 : sProp 𝕄)) ⊢ _ from bigSep_elim (Finset.mem_univ ck))
  iexact H

/-! ## A run of steps, one per index -/

theorem bigSep_step (Φ : Fin 31 → sProp 𝕄) {k : Fin 31} {l : List (Fin 31)} (hn : (k :: l).Nodup) :
    bigSep (k :: l).toFinset Φ = iprop(Φ k ∗ bigSep l.toFinset Φ) := by
  rw [List.toFinset_cons, bigSep_insert fun h => (List.nodup_cons.mp hn).1 (List.mem_toFinset.mp h)]; rfl

/-- A program that makes one step per index of a list: if each step turns `Pre k` into `Post k` and the state at `k :: l` into
    the state at `l`, under a persistent `R`, the run does so for all. -/
theorem wp_foldr (c : Dev nD) (R : sProp 𝕄) [BI.Persistent R] (Pre Post : Fin 31 → sProp 𝕄) (St : List (Fin 31) → sProp 𝕄)
    (Q : PUnit → sProp 𝕄) (step : Fin 31 → Kp (F := F) → Kp (F := F))
    (h : ∀ k l P, iprop(R ∗ Pre k ∗ St (k :: l)) ⊢ iprop(((Post k ∗ St l) -∗ wp frame (wpE (defs₀ (F := F)) 𝒱₀ (c : Thread nD τ) none) Set.univ P Q) -∗ wp frame (wpE (defs₀ (F := F)) 𝒱₀ (c : Thread nD τ) none) Set.univ (step k P) Q)) :
    ∀ (l : List (Fin 31)) (hn : l.Nodup) (P : Kp (F := F)),
      iprop(R ∗ bigSep l.toFinset Pre ∗ St l) ⊢ iprop(((bigSep l.toFinset Post ∗ St []) -∗ wp frame (wpE (defs₀ (F := F)) 𝒱₀ (c : Thread nD τ) none) Set.univ P Q) -∗ wp frame (wpE (defs₀ (F := F)) 𝒱₀ (c : Thread nD τ) none) Set.univ (l.foldr step P) Q)
  | [], _, P => by
    iintro ⟨-, -, HS⟩ Hk
    iapply Hk
    isplitr; · rw [List.toFinset_nil, bigSep_empty]; iempintro
    iexact HS
  | k :: l, hn, P => by
    rw [bigSep_step Pre hn, bigSep_step Post hn, List.foldr_cons]
    iintro ⟨#HR, ⟨Hp, HP⟩, HS⟩ Hk
    iapply (h k l (l.foldr step P)) $$ [Hp HS]
    · isplitr; · iexact HR
      isplitl [Hp]; · iexact Hp
      iexact HS
    iintro ⟨Hq, HS⟩
    iapply (wp_foldr c R Pre Post St Q step h l (List.nodup_cons.mp hn).2 P) $$ [HP HS]
    · isplitr; · iexact HR
      isplitl [HP]; · iexact HP
      iexact HS
    iintro ⟨HQ, HS⟩
    iapply Hk
    isplitl [Hq HQ]
    · isplitl [Hq]; · iexact Hq
      iexact HQ
    iexact HS

theorem finRange_toFinset : (List.finRange 31).toFinset = Finset.univ := by decide

/-! ## The steps -/

section Steps
variable (c : Dev nD)

/-- What the `k`-th signal uses up: the duty it pays, and the slot it hands over. -/
def sigPre (k : Fin 31) : sProp 𝕄 := iprop(dutyTok ER (barCell (dst c k)) 0 (rev k) ∗ ∃ f, slotPts c (rev k).castSucc f)

theorem step_sig (k : Fin 31) (l : List (Fin 31)) (P : Kp (F := F)) (Q : PUnit → sProp 𝕄) :
    iprop(records m ρ K ∗ sigPre c k ∗ ∃ W, owes (c : Thread nD τ) (oRcv c (List.finRange 31) + oBar c (k :: l)) W)
      ⊢ iprop(((emp ∗ ∃ W, owes (c : Thread nD τ) (oRcv c (List.finRange 31) + oBar c l) W) -∗ wp frame (wpE (defs₀ (F := F)) 𝒱₀ (c : Thread nD τ) none) Set.univ P Q) -∗ wp frame (wpE (defs₀ (F := F)) 𝒱₀ (c : Thread nD τ) none) Set.univ (sigStep c k P) Q) := by
  unfold sigStep sigPre
  rw [sigDev_eq]
  iintro ⟨#HR, ⟨Ht, ⟨%f, Hs⟩⟩, ⟨%W, HO⟩⟩ Hk
  iapply (Rounds.wp_signal 𝒱₀ ER (exRd m ρ) (c : Thread nD τ) none (dst := (dst c k : Thread nD τ)) (κ := K (dst c k, .inl ()))
      (d := rev k) (by rw [duties_bar]; exact Finset.mem_univ _) (amount_bar m ρ (dst c k) (rev k)) () (oRcv c (List.finRange 31) + oBar c l)
      (add_assoc _ _ _).symm) $$ [HO Ht Hs]
  · isplitr; · iapply (inv_at m ρ K (dst c k, .inl ())); iexact HR
    isplitl [HO]; · iexact HO
    isplitl [Ht]; · iexact Ht
    isplitl [Hs]
    · rw [payload_bar]; unfold barPay; rw [dst_rev]
      isplitl [Hs]; · iexists f; iexact Hs
      iapply (reached_at m ρ K (c, .inr (.inr (rev k)))); iexact HR
    · iapply (reached_at m ρ K (dst c k, .inl ())); iexact HR
  iintro HO
  iapply Hk
  isplitr; · iempintro
  iexists W; iexact HO

/-- What the `k`-th copy uses up. -/
def sendPre (k : Fin 31) : sProp 𝕄 :=
  iprop(barPay c k ∗ yPts m ρ c k ∗ dutyTok ER (sendCell c k) 0 0 ∗ dutyTok ER (recvCell (dst c k) k) 0 0)

theorem step_send (k : Fin 31) (l : List (Fin 31)) (P : Kp (F := F)) (Q : PUnit → sProp 𝕄) :
    iprop(records m ρ K ∗ sendPre m ρ c k ∗ ∃ W, owes (c : Thread nD τ) (oRcv c (k :: l)) W)
      ⊢ iprop(((cred (tallyAt (sendCell c k) () N) ∗ ∃ W, owes (c : Thread nD τ) (oRcv c l) W) -∗ wp frame (wpE (defs₀ (F := F)) 𝒱₀ (c : Thread nD τ) none) Set.univ P Q)
        -∗ wp frame (wpE (defs₀ (F := F)) 𝒱₀ (c : Thread nD τ) none) Set.univ (sendStep yM (Memref.isWhole_whole _) gM (Memref.isWhole_whole _) cc0_scratch2 cc0_scratch3 c k P) Q) := by
  unfold sendStep
  rw [cpyDev_eq]
  unfold sendTo sendPre barPay yPts slotPts
  iintro ⟨#HR, ⟨⟨⟨%f, Hs⟩, #Hr⟩, Hy, Ht, Ht'⟩, ⟨%W, HO⟩⟩ Hk
  have hpay : ((slot k.castSucc).view.loc (dst c k : Thread nD τ) ↦[(slot k.castSucc).view.set]{fullShare}
        ((slot k.castSucc).view.write (Elt F) f ((yM : Memref sig .tc .vmem S16x512 .bf16).view.read (Elt F) (yAt m ρ c)) Finset.univ) : sProp 𝕄)
      ⊢ (exRd m ρ).payload (recvCell (dst c k) k) 0 0 := by
    rw [payload_recv]; unfold recvPay slotPts
    rw [View.read_whole]
    exact Entails.of_eq (pointsTo_congr (landed_eq m ρ (dst c k) k.castSucc c (by rw [owner_castSucc, src_dst]) f))
  have hpay' : ((yM : Memref sig .tc .vmem S16x512 .bf16).view.loc (c : Thread nD τ) ↦[(yM : Memref sig .tc .vmem S16x512 .bf16).view.set]{Transfers.shareTok fullShare 31 k} yAt m ρ c : sProp 𝕄)
      ⊢ (exRd m ρ).payload (sendCell c k) 0 0 := by
    rw [payload_send]; exact BI.Entails.refl _
  have hd1 : (0 : Fin 31) ∈ (exRd m ρ).duties (sendCell c k) 0 := by rw [duties_send]; exact Finset.mem_singleton_self _
  have hd2 : (0 : Fin 31) ∈ (exRd m ρ).duties (recvCell (dst c k) k) 0 := by rw [duties_recv]; exact Finset.mem_singleton_self _
  have hN : (slot k.castSucc).view.amount (csem (.inr (.inr k))) = N := rfl
  iapply (Rounds.wp_send_pointsTo 𝒱₀ ER (exRd m ρ) (c : Thread nD τ) none (κ₁ := K (c, .inr (.inl k))) (κ₂ := K (dst c k, .inr (.inr k)))
    (src := yM) (dst := slot k.castSucc) (c' := (dst c k : Thread nD τ)) hd1 hd2
    () () N hN (amount_send m ρ c k 0) (amount_recv m ρ (dst c k) k 0) (oRcv c l) rfl (W := W) hpay' hpay) $$ [Hy Hs HO Ht Ht']
  · isplitr; · iapply (inv_at m ρ K (c, .inr (.inl k))); iexact HR
    isplitr; · iapply (inv_at m ρ K (dst c k, .inr (.inr k))); iexact HR
    isplitl [Hy]; · iexact Hy
    isplitl [Hs]; · iexact Hs
    isplitl [HO]; · iexact HO
    isplitl [Ht]; · iexact Ht
    isplitr; · iapply (reached_at m ρ K (c, .inr (.inl k))); iexact HR
    isplitl [Ht']; · iexact Ht'
    iexact Hr
  iintro ⟨Hc, HO⟩
  iapply Hk
  isplitl [Hc]; · iexact Hc
  iexists W; iexact HO

def recvPre (k : Fin 31) : sProp 𝕄 := iprop(cred (tallyAt (recvCell c k) () N) ∗ atPos ER (recvCell c k) 0 ∅ 0)
def recvPost (k : Fin 31) : sProp 𝕄 := iprop(slotPts c k.castSucc (gathered m ρ c) ∗ semVal (recvCell c k) 0)

theorem step_recv (k : Fin 31) (l : List (Fin 31)) (P : Kp (F := F)) (Q : PUnit → sProp 𝕄) :
    iprop(records m ρ K ∗ recvPre c k ∗ ∃ W, owes (c : Thread nD τ) 0 W)
      ⊢ iprop(((recvPost m ρ c k ∗ ∃ W, owes (c : Thread nD τ) 0 W) -∗ wp frame (wpE (defs₀ (F := F)) 𝒱₀ (c : Thread nD τ) none) Set.univ P Q)
        -∗ wp frame (wpE (defs₀ (F := F)) 𝒱₀ (c : Thread nD τ) none) Set.univ (recvStep yM (Memref.isWhole_whole _) gM (Memref.isWhole_whole _) cc0_scratch3 k P) Q) := by
  unfold recvStep recvPre recvPost
  iintro ⟨#HR, ⟨Hc, Ha⟩, ⟨%W, HO⟩⟩ Hk
  iapply (Rounds.wp_wait_rest_token 𝒱₀ ER (exRd m ρ) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add]; exact (expect_recv m ρ c k).symm)) $$ [Hc HO Ha]
  · isplitr; · iapply (inv_at m ρ K (c, .inr (.inr k))); iexact HR
    isplitl [Hc]; · iexact Hc
    isplitl [HO]; · iexact HO
    isplitr; · rw [MayWait_zero]; iempintro
    iexact Ha
  iintro ⟨HO, Ha, -, Hpay⟩
  ihave Hp := (Entails.of_eq (rest_recv m ρ c k)) $$ Hpay
  unfold recvPay
  imod (Rounds.cell_close ER (exRd m ρ) (Set.mem_univ (K (c, .inr (.inr k)))) (fun h => h) (R := 0 + 1) (duties_later m ρ (recvCell c k))) $$ [Ha] with Hz
  · isplitr; · iapply (inv_at m ρ K (c, .inr (.inr k))); iexact HR
    iexact Ha
  iapply Hk
  isplitl [Hp Hz]
  · isplitl [Hp]; · iexact Hp
    iexact Hz
  iexists _; iexact HO

def departPre (k : Fin 31) : sProp 𝕄 := iprop(cred (tallyAt (sendCell c k) () N) ∗ atPos ER (sendCell c k) 0 ∅ 0)
def departPost (k : Fin 31) : sProp 𝕄 := iprop(yPts m ρ c k ∗ semVal (sendCell c k) 0)

theorem step_depart (k : Fin 31) (l : List (Fin 31)) (P : Kp (F := F)) (Q : PUnit → sProp 𝕄) :
    iprop(records m ρ K ∗ departPre c k ∗ ∃ W, owes (c : Thread nD τ) 0 W)
      ⊢ iprop(((departPost m ρ c k ∗ ∃ W, owes (c : Thread nD τ) 0 W) -∗ wp frame (wpE (defs₀ (F := F)) 𝒱₀ (c : Thread nD τ) none) Set.univ P Q)
        -∗ wp frame (wpE (defs₀ (F := F)) 𝒱₀ (c : Thread nD τ) none) Set.univ (departStep yM (Memref.isWhole_whole _) gM (Memref.isWhole_whole _) cc0_scratch2 k P) Q) := by
  unfold departStep departPre departPost
  iintro ⟨#HR, ⟨Hc, Ha⟩, ⟨%W, HO⟩⟩ Hk
  iapply (Rounds.wp_wait_rest_token 𝒱₀ ER (exRd m ρ) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add]; exact (expect_send m ρ c k).symm)) $$ [Hc HO Ha]
  · isplitr; · iapply (inv_at m ρ K (c, .inr (.inl k))); iexact HR
    isplitl [Hc]; · iexact Hc
    isplitl [HO]; · iexact HO
    isplitr; · rw [MayWait_zero]; iempintro
    iexact Ha
  iintro ⟨HO, Ha, -, Hpay⟩
  ihave Hp := (Entails.of_eq (rest_send m ρ c k)) $$ Hpay
  unfold sendPay
  imod (Rounds.cell_close ER (exRd m ρ) (Set.mem_univ (K (c, .inr (.inl k)))) (fun h => h) (R := 0 + 1) (duties_later m ρ (sendCell c k))) $$ [Ha] with Hz
  · isplitr; · iapply (inv_at m ρ K (c, .inr (.inl k))); iexact HR
    iexact Ha
  iapply Hk
  isplitl [Hp Hz]
  · isplitl [Hp]; · iexact Hp
    iexact Hz
  iexists _; iexact HO

end Steps

/-! ## The buffers cut and joined -/

theorem slot_set (k : Fin 32) : (slot k).view.set = (slotRect k).set := View.set_slice_whole cc0_scratch1 (slotRect k)

/-- The gather buffer is its last slot and the 31 the peers write. -/
theorem gather_slots (c : Dev nD) (f : Buf (Elt F) ((c : Thread nD τ).loc cc0_scratch1)) :
    (((c : Thread nD τ).loc cc0_scratch1) ↦{fullShare} f : sProp 𝕄)
      = iprop(slotPts c (Fin.last 31) f ∗ bigSep Finset.univ fun k : Fin 31 => slotPts c k.castSucc f) := by
  have h := Ring.pointsTo_blocks (Ix := Unit) (Name := ℕ) (U := UU) (Lvl := ℕ) (ℓ := (c : Thread nD τ).loc cc0_scratch1) (fun k : Fin 32 => (slotRect k).set)
    (fun b b' hb => Ring.lead_disjoint (s := S512x512) 0 16 (fun b : Fin 32 => ![16 * b.val, 0]) S16x512.size inbSlot (fun _ => rfl) rfl b b' hb)
    (Ring.lead_cover (s := S512x512) 0 16 (fun b : Fin 32 => ![16 * b.val, 0]) S16x512.size inbSlot (fun _ => rfl)
      (fun b a ha => by fin_cases a; exact absurd rfl ha; rfl) rfl (fun a ha => by fin_cases a; exact absurd rfl ha; rfl) rfl) (q := fullShare) f
  rw [h, show (Finset.univ : Finset (Fin 32)) = insert (Fin.last 31) (Finset.univ.map Fin.castSuccEmb) from by decide,
    bigSep_insert (by decide), bigSep_map]
  unfold slotPts
  rw [slot_set]
  exact congrArg (fun P => iprop(_ ∗ P)) (bigSep_congr fun k _ => by rw [slot_set]; rfl)

/-- The stored products are the share kept and the 31 lent to the copies. -/
theorem y_shares (c : Dev nD) :
    (((c : Thread nD τ).loc cc0_scratch0) ↦{fullShare} yAt m ρ c : sProp 𝕄)
      ⊣⊢ iprop((((c : Thread nD τ).loc cc0_scratch0) ↦{Transfers.shareDrop fullShare 31} yAt m ρ c) ∗ bigSep Finset.univ fun k : Fin 31 => yPts m ρ c k) := by
  have h := Transfers.pointsTo_toks (Ix := Unit) (Name := ℕ) (U := UU) (Lvl := ℕ) (ℓ := (c : Thread nD τ).loc cc0_scratch0) (S := Finset.univ) (f := (yAt m ρ c : Buf (Elt F) _)) fullShare 31
  unfold yPts
  rw [View.set_whole]
  exact h

def revE : Fin 31 ≃ Fin 31 := ⟨rev, rev, rev_rev, rev_rev⟩

end Cert.KernelIdeal.Hand

end
-- ==== Proof.KI.Whole.lean ====
/- One device's whole body, from what the launch deals to what the pipeline takes back. -/
module

public import proofs.«01_k».proof.Proof.KI.Body

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four runs of 31 -/

section Runs
variable (K : Dev nD × CK → ℕ) (c : Dev nD)

theorem run_sigs (P : Kp (F := F)) (Q : PUnit → sProp 𝕄) :
    iprop(records m ρ K ∗ bigSep Finset.univ (sigPre c) ∗ ∃ W, owes (c : Thread nD τ) (O₀ c) W)
      ⊢ iprop(((∃ W, owes (c : Thread nD τ) (oRcv c (List.finRange 31)) W) -∗ wp frame (wpE (defs₀ (F := F)) 𝒱₀ (c : Thread nD τ) none) Set.univ P Q)
        -∗ wp frame (wpE (defs₀ (F := F)) 𝒱₀ (c : Thread nD τ) none) Set.univ (sigs c (List.finRange 31) P) Q) := by
  have h := wp_foldr c (records m ρ K) (sigPre c) (fun _ => iprop(emp)) (fun l => iprop(∃ W, owes (c : Thread nD τ) (oRcv c (List.finRange 31) + oBar c l) W)) Q
    (sigStep c) (fun k l P => step_sig m ρ K c k l P Q) (List.finRange 31) (List.nodup_finRange 31) P
  rw [finRange_toFinset] at h
  rw [show O₀ c = oRcv c (List.finRange 31) + oBar c (List.finRange 31) from rfl]
  iintro H Hk
  iapply h $$ H
  iintro ⟨-, ⟨%W, HO⟩⟩
  iapply Hk
  iexists W
  rw [show oRcv c (List.finRange 31) + oBar c [] = oRcv c (List.finRange 31) from add_zero _]
  iexact HO

theorem run_sends (P : Kp (F := F)) (Q : PUnit → sProp 𝕄) :
    iprop(records m ρ K ∗ bigSep Finset.univ (sendPre m ρ c) ∗ ∃ W, owes (c : Thread nD τ) (oRcv c (List.finRange 31)) W)
      ⊢ iprop(((bigSep Finset.univ (fun k => cred (tallyAt (sendCell c k) () N)) ∗ ∃ W, owes (c : Thread nD τ) 0 W)
          -∗ wp frame (wpE (defs₀ (F := F)) 𝒱₀ (c : Thread nD τ) none) Set.univ P Q)
        -∗ wp frame (wpE (defs₀ (F := F)) 𝒱₀ (c : Thread nD τ) none) Set.univ
            (sends yM (Memref.isWhole_whole _) gM (Memref.isWhole_whole _) cc0_scratch2 cc0_scratch3 c (List.finRange 31) P) Q) := by
  have h := wp_foldr c (records m ρ K) (sendPre m ρ c) (fun k => cred (tallyAt (sendCell c k) () N)) (fun l => iprop(∃ W, owes (c : Thread nD τ) (oRcv c l) W)) Q
    _ (fun k l P => step_send m ρ K c k l P Q) (List.finRange 31) (List.nodup_finRange 31) P
  rw [finRange_toFinset] at h
  exact h

theorem run_recvs (P : Kp (F := F)) (Q : PUnit → sProp 𝕄) :
    iprop(records m ρ K ∗ bigSep Finset.univ (recvPre c) ∗ ∃ W, owes (c : Thread nD τ) 0 W)
      ⊢ iprop(((bigSep Finset.univ (recvPost m ρ c) ∗ ∃ W, owes (c : Thread nD τ) 0 W)
          -∗ wp frame (wpE (defs₀ (F := F)) 𝒱₀ (c : Thread nD τ) none) Set.univ P Q)
        -∗ wp frame (wpE (defs₀ (F := F)) 𝒱₀ (c : Thread nD τ) none) Set.univ
            (recvs yM (Memref.isWhole_whole _) gM (Memref.isWhole_whole _) cc0_scratch3 (List.finRange 31) P) Q) := by
  have h := wp_foldr c (records m ρ K) (recvPre c) (recvPost m ρ c) (fun _ => iprop(∃ W, owes (c : Thread nD τ) 0 W)) Q
    _ (fun k l P => step_recv m ρ K c k l P Q) (List.finRange 31) (List.nodup_finRange 31) P
  rw [finRange_toFinset] at h
  exact h

theorem run_departs (P : Kp (F := F)) (Q : PUnit → sProp 𝕄) :
    iprop(records m ρ K ∗ bigSep Finset.univ (departPre c) ∗ ∃ W, owes (c : Thread nD τ) 0 W)
      ⊢ iprop(((bigSep Finset.univ (departPost m ρ c) ∗ ∃ W, owes (c : Thread nD τ) 0 W)
          -∗ wp frame (wpE (defs₀ (F := F)) 𝒱₀ (c : Thread nD τ) none) Set.univ P Q)
        -∗ wp frame (wpE (defs₀ (F := F)) 𝒱₀ (c : Thread nD τ) none) Set.univ
            (departs yM (Memref.isWhole_whole _) gM (Memref.isWhole_whole _) cc0_scratch2 (List.finRange 31) P) Q) := by
  have h := wp_foldr c (records m ρ K) (departPre c) (departPost m ρ c) (fun _ => iprop(∃ W, owes (c : Thread nD τ) 0 W)) Q
    _ (fun k l P => step_depart m ρ K c k l P Q) (List.finRange 31) (List.nodup_finRange 31) P
  rw [finRange_toFinset] at h
  exact h

end Runs

theorem sigPre_intro (c : Dev nD) (k : Fin 31) (f : Buf (Elt F) ((c : Thread nD τ).loc cc0_scratch1)) :
    iprop(dutyTok ER (barCell (dst c k)) 0 (rev k) ∗ slotPts c (rev k).castSucc f) ⊢ (sigPre c k : sProp 𝕄) := by
  unfold sigPre
  iintro ⟨H1, H2⟩
  isplitl [H1]; · iexact H1
  iexists f; iexact H2

theorem recvPost_split (c : Dev nD) : (bigSep Finset.univ (recvPost m ρ c) : sProp 𝕄)
    = iprop((bigSep Finset.univ fun k : Fin 31 => slotPts c k.castSucc (gathered m ρ c)) ∗ bigSep Finset.univ fun k : Fin 31 => semVal (recvCell c k) 0) := by
  unfold recvPost; exact bigSep_sep' _ _ _
theorem departPost_split (c : Dev nD) : (bigSep Finset.univ (departPost m ρ c) : sProp 𝕄)
    = iprop((bigSep Finset.univ fun k : Fin 31 => yPts m ρ c k) ∗ bigSep Finset.univ fun k : Fin 31 => semVal (sendCell c k) 0) := by
  unfold departPost; exact bigSep_sep' _ _ _

/-! ## What the body starts from and ends at -/

/-- The tokens of the duties device `c` pays. -/
def payToks (c : Dev nD) : sProp 𝕄 :=
  iprop((bigSep Finset.univ fun k : Fin 31 => dutyTok ER (barCell (dst c k)) 0 (rev k))
    ∗ (bigSep Finset.univ fun k : Fin 31 => dutyTok ER (sendCell c k) 0 0)
    ∗ bigSep Finset.univ fun k : Fin 31 => dutyTok ER (recvCell (dst c k) k) 0 0)
/-- Device `c`'s positions in its own cells, and its tokens. -/
def linear (c : Dev nD) : sProp 𝕄 :=
  iprop((atPos ER (barCell c) 0 ∅ 0 ∗ (bigSep Finset.univ fun k : Fin 31 => atPos ER (sendCell c k) 0 ∅ 0)
    ∗ bigSep Finset.univ fun k : Fin 31 => atPos ER (recvCell c k) 0 ∅ 0) ∗ payToks c)
def ghost (K : Dev nD × CK → ℕ) (c : Dev nD) : sProp 𝕄 := iprop(records m ρ K ∗ linear c)
def creditsOf (c : Dev nD) : sProp 𝕄 :=
  iprop(cred (tallyAt (barCell c) () 31) ∗ bigSep Finset.univ fun k : Fin 31 => cred (tallyAt (recvCell c k) () N))
def start (c : Dev nD) : sProp 𝕄 := iprop((∃ K, ghost m ρ K c) ∗ creditsOf c ∗ levAts L lv)
/-- Both scratch buffers at some contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
def Φ₀ (c : Dev nD) : sProp 𝕄 := iprop(start m ρ c ∗ scratch c)
/-- After the body: the scratch buffers, and every cell closed at zero. -/
def Φ₁ (c : Dev nD) : sProp 𝕄 :=
  iprop(scratch (F := F) c ∗ semVal (barCell c) 0 ∗ (bigSep Finset.univ fun k : Fin 31 => semVal (sendCell c k) 0)
    ∗ bigSep Finset.univ fun k : Fin 31 => semVal (recvCell c k) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => istg m ρ c
    | ⟨2, _⟩ => estg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem hz : (![0, 0] : Fin 2 → Nat) = fun _ => 0 := funext fun a => by fin_cases a <;> rfl
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 hz _ f
theorem read_i (f : (cc0_stg1_0 : Ref sig .tc).ty.Contents (Elt F)) :
    (iM : Memref sig .tc .vmem S512x1 .i32).view.readAt (Elt F) (Rect.unit (s := S512x1) ![0, 0] S512x1.size inb_S512x1_S512x1_0_0).toLoadRect f = f :=
  Memref.readAt_unit_zero (Elt F) cc0_stg1_0 hz _ f
theorem read_g (f : (cc0_scratch1 : Ref sig .tc).ty.Contents (Elt F)) :
    (gM : Memref sig .tc .vmem S512x512 .bf16).view.readAt (Elt F) (Rect.unit (s := S512x512) ![0, 0] S512x512.size inb_S512x512_S512x512_0_0).toLoadRect f = f :=
  Memref.readAt_unit_zero (Elt F) cc0_scratch1 hz _ f
theorem write_y (f w : (cc0_scratch0 : Ref sig .tc).ty.Contents (Elt F)) :
    ((yM : Memref sig .tc .vmem S16x512 .bf16).access (Rect.unit (s := S16x512) ![0, 0] S16x512.size inb_S16x512_S16x512_0_0) : View sig .tc _ _ _).write (Elt F) f w Finset.univ = w :=
  Memref.write_access_unit_zero_univ (Elt F) cc0_scratch0 hz _ f w
theorem write_o (f w : (cc0_stg3_0 : Ref sig .tc).ty.Contents (Elt F)) :
    ((oM : Memref sig .tc .vmem S16x512 .f32).access (Rect.unit (s := S16x512) ![0, 0] S16x512.size inb_S16x512_S16x512_0_0) : View sig .tc _ _ _).write (Elt F) f w Finset.univ = w :=
  Memref.write_access_unit_zero_univ (Elt F) cc0_stg3_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ ∗ stg c cc0_stg0_0 (xstg m ρ c) ∗ stg c cc0_stg1_0 (istg m ρ c)
    ∗ stg c cc0_stg2_0 (estg m ρ c) ∗ stg c cc0_stg3_0 (outAt m ρ c))

/-- The last slot after the device's own products are stored into it. -/
theorem own_slot (c : Dev nD) (f : Buf (Elt F) ((c : Thread nD τ).loc cc0_scratch1)) :
    (slotPts c (Fin.last 31) (((gM : Memref sig .tc .vmem S512x512 .bf16).access
        (Rect.unit (s := S512x512) ![496, 0] S16x512.size inb_S512x512_S16x512_496_0) : View sig .tc _ _ _).write (Elt F) f (yAt m ρ c) Finset.univ) : sProp 𝕄)
      = slotPts c (Fin.last 31) (gathered m ρ c) := by
  unfold slotPts
  exact pointsTo_congr (landed_eq m ρ c (Fin.last 31) c (owner_last c) f)

theorem last_set : ((gM : Memref sig .tc .vmem S512x512 .bf16).access
    (Rect.unit (s := S512x512) ![496, 0] S16x512.size inb_S512x512_S16x512_496_0) : View sig .tc _ _ _).setOn Finset.univ ⊆ (slot (Fin.last 31)).view.set :=
  Finset.Subset.refl _
theorem last_load : (gM : Memref sig .tc .vmem S512x512 .bf16).view.setOn
    (Rect.unit (s := S512x512) ![496, 0] S16x512.size inb_S512x512_S16x512_496_0).toLoadRect.set ⊆ (slot (Fin.last 31)).view.set := by
  rw [slot_set]
  exact fun i hi => by
    obtain ⟨x, hx, rfl⟩ := Finset.mem_map.mp hi
    exact hx

set_option maxHeartbeats 1600000 in
/-- The body, one rule per effect and one run per 31, from `bodyPre` to `bodyPost`. -/
theorem sound_body (c : Dev nD) :
    bodyPre m ρ c
      ⊢ wp frame (wpE (defs₀ (F := F)) 𝒱₀ c none) Set.univ (bodyS xM iM eM oM yM (Memref.isWhole_whole _) gM (Memref.isWhole_whole _) cc0_scratch2 cc0_scratch3)
        (fun _ => bodyPost m ρ c) := by
  unfold bodyS
  simp only [wp_deviceId]
  unfold bodyPre Φ₀ start ghost linear payToks creditsOf scratch
  iintro ⟨⟨⟨⟨%K, #HR, ⟨⟨HaB, HaS, HaV⟩, HtB, HtS, HtV⟩⟩, ⟨HcB, HcV⟩, #Hlev⟩, ⟨⟨%fy, Hy⟩, ⟨%fg, Hg⟩⟩⟩,
    Ho, ⟨%d0, %g0, %hg0, Hx⟩, ⟨%d1, %g1, %hg1, Hi⟩, ⟨%d2, %g2, %hg2, He⟩, ⟨%d3, %g3, %hg3, Hout⟩⟩
  have hx : g0 = xstg m ρ c := by rw [hg0]; unfold Dat.before; rw [if_pos (fetch0_0 t₀)]; rfl
  have hi : g1 = istg m ρ c := by rw [hg1]; unfold Dat.before; rw [if_pos (fetch0_1 t₀)]; rfl
  have he : g2 = estg m ρ c := by rw [hg2]; unfold Dat.before; rw [if_pos (fetch0_2 t₀)]; rfl
  subst hx hi he
  unfold Dat.owesAt Pipeline.owesWithin
  icases Ho with ⟨%W, %hW, HO⟩
  rw [show (dats m ρ 0 c).owed t₀.castSucc = O₀ c from rfl]
  -- the slots of the gather buffer, and the signals that hand 31 of them over
  ihave Hg' := (Entails.of_eq (gather_slots c fg)) $$ Hg
  icases Hg' with ⟨Hlast, Hslots⟩
  ihave Hsl := (Entails.of_eq (bigSep_univ_equiv revE (fun k : Fin 31 => (slotPts c k.castSucc fg : sProp 𝕄)))) $$ Hslots
  iapply (run_sigs m ρ K c) $$ [HtB Hsl HO]
  · isplitr; · iexact HR
    isplitl [HtB Hsl]
    · iapply (show iprop((bigSep Finset.univ fun k : Fin 31 => dutyTok ER (barCell (dst c k)) 0 (rev k)) ∗ (bigSep Finset.univ fun k : Fin 31 => slotPts c (rev k).castSucc fg))
          ⊢ (bigSep Finset.univ (sigPre c) : sProp 𝕄) from by
        rw [← bigSep_sep']
        exact bigSep_mono fun k _ => sigPre_intro c k fg)
      isplitl [HtB]; · iexact HtB
      iexact Hsl
    · iexists W; iexact HO
  iintro ⟨%W1, HO⟩
  -- the loads and the store of the products
  iapply (wp_load 𝒱₀ (c : Thread nD τ) none Set.univ (m := iM) (Finset.subset_univ _)) $$ Hi; iintro Hi
  rw [read_i]
  iapply (wp_load 𝒱₀ (c : Thread nD τ) none Set.univ (m := xM) (Finset.subset_univ _)) $$ Hx; iintro Hx
  rw [read_x]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := yM) (Finset.subset_univ _)) $$ Hy; iintro Hy
  iapply (wp_store 𝒱₀ (c : Thread nD τ) none Set.univ (m := yM) (r := Rect.unit (s := S16x512) ![0, 0] S16x512.size inb_S16x512_S16x512_0_0) (Mk := Finset.univ) (Finset.subset_univ _)) $$ Hy; iintro Hy
  rw [write_y]
  rw [show yVal c (istg m ρ c) (xstg m ρ c) _ _ _ _ = yAt m ρ c from rfl]
  -- the wait for the 31 peers, whose slots come with it
  iapply (Rounds.wp_wait_rest_token 𝒱₀ ER (exRd m ρ) (c : Thread nD τ) none (κ := K (c, .inl ()))
      (wpE_semWait_eq 𝒱₀ (c : Thread nD τ) none Set.univ) (Set.mem_univ _) () (O := oRcv c (List.finRange 31)) (W := W1) (R := 0) (m := 0) (T := ∅)
      (by rw [Nat.zero_add]; exact (expect_bar m ρ c).symm)) $$ [HcB HO HaB]
  · isplitr; · iapply (inv_at m ρ K (c, .inl ())); iexact HR
    isplitl [HcB]; · iexact HcB
    isplitl [HO]; · iexact HO
    isplitr; · iapply (mayWait_bar (F := F) c); iexact Hlev
    iexact HaB
  iintro ⟨HO, HaB, -, Hpay⟩
  ihave Hp := (Entails.of_eq (rest_bar m ρ c)) $$ Hpay
  imod (Rounds.cell_close ER (exRd m ρ) (Set.mem_univ (K (c, .inl ()))) (fun h => h) (R := 0 + 1) (duties_later m ρ (barCell c))) $$ [HaB] with HzB
  · isplitr; · iapply (inv_at m ρ K (c, .inl ())); iexact HR
    iexact HaB
  -- the copies
  ihave Hy' := (y_shares m ρ c).1 $$ Hy
  icases Hy' with ⟨Hykeep, Hyk⟩
  iapply (run_sends m ρ K c) $$ [Hp Hyk HtS HtV HO]
  · isplitr; · iexact HR
    isplitl [Hp Hyk HtS HtV]
    · iapply (show iprop((bigSep Finset.univ (barPay c)) ∗ (bigSep Finset.univ fun k : Fin 31 => yPts m ρ c k)
            ∗ (bigSep Finset.univ fun k : Fin 31 => dutyTok ER (sendCell c k) 0 0) ∗ bigSep Finset.univ fun k : Fin 31 => dutyTok ER (recvCell (dst c k) k) 0 0)
          ⊢ (bigSep Finset.univ (sendPre m ρ c) : sProp 𝕄) from by
        unfold sendPre
        rw [bigSep_sep', bigSep_sep', bigSep_sep'])
      isplitl [Hp]; · iexact Hp
      isplitl [Hyk]; · iexact Hyk
      isplitl [HtS]; · iexact HtS
      iexact HtV
    · iexists _; iexact HO
  iintro ⟨HcS, ⟨%W2, HO⟩⟩
  -- the device's own products into the last slot
  unfold tail
  iapply (wp_load 𝒱₀ (c : Thread nD τ) none Set.univ (m := gM) (S := (slot (Fin.last 31)).view.set) last_load) $$ [Hlast]
  · unfold slotPts; iexact Hlast
  iintro Hlast
  iapply (wp_store 𝒱₀ (c : Thread nD τ) none Set.univ (m := gM) (r := Rect.unit (s := S512x512) ![496, 0] S16x512.size inb_S512x512_S16x512_496_0) (S := (slot (Fin.last 31)).view.set) (Mk := Finset.univ) last_set) $$ Hlast
  iintro Hlast
  ihave Hlast := (show _ ⊢ _ from Entails.of_eq (own_slot m ρ c fg)) $$ [Hlast]
  · unfold slotPts; iexact Hlast
  iapply (wp_load 𝒱₀ (c : Thread nD τ) none Set.univ (m := iM) (Finset.subset_univ _)) $$ Hi; iintro Hi
  -- what the peers sent
  iapply (run_recvs m ρ K c) $$ [HcV HaV HO]
  · isplitr; · iexact HR
    isplitl [HcV HaV]
    · unfold recvPre; rw [bigSep_sep']
      isplitl [HcV]; · iexact HcV
      iexact HaV
    · iexists W2; iexact HO
  iintro ⟨Hrv, ⟨%W3, HO⟩⟩
  ihave Hrv := (Entails.of_eq (recvPost_split m ρ c)) $$ Hrv
  icases Hrv with ⟨Hslots, HzV⟩
  ihave Hg := (Entails.of_eq (gather_slots c (gathered m ρ c)).symm) $$ [Hlast Hslots]
  · isplitl [Hlast]; · iexact Hlast
    iexact Hslots
  -- the combine
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := Rect.unit (s := S16x512) ![0, 0] S16x512.size inb_S16x512_S16x512_0_0) (Mk := Finset.univ) (Finset.subset_univ _)) $$ Hout; iintro Hout
  rw [write_o]
  -- the copies read out
  iapply (run_departs m ρ K c) $$ [HcS HaS HO]
  · isplitr; · iexact HR
    isplitl [HcS HaS]
    · unfold departPre; rw [bigSep_sep']
      isplitl [HcS]; · iexact HcS
      iexact HaS
    · iexists W3; iexact HO
  iintro ⟨Hdp, ⟨%W4, HO⟩⟩
  ihave Hdp := (Entails.of_eq (departPost_split m ρ c)) $$ Hdp
  icases Hdp with ⟨Hyk, HzS⟩
  ihave Hy := (y_shares m ρ c).2 $$ [Hykeep Hyk]
  · isplitl [Hykeep]; · iexact Hykeep
    iexact Hyk
  rw [wp_ret]; imodintro
  unfold bodyPost Φ₁ scratch Dat.owesAt Pipeline.owesWithin
  rw [show (dats m ρ 0 c).owed t₀.succ = 0 from rfl]
  isplitl [Hy Hg HzB HzS HzV]
  · isplitl [Hy Hg]
    · isplitl [Hy]; · iexists _; iexact Hy
      iexists _; iexact Hg
    isplitl [HzB]; · iexact HzB
    isplitl [HzS]; · iexact HzS
    iexact HzV
  isplitl [HO]
  · iexists W4
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [He]
  · iexists _; isplitr; · (ipureintro; rfl)
    iexact He
  iexists _; isplitr; · (ipureintro; rfl)
  iexact Hout

set_option maxRecDepth 8000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body xM (Memref.isWhole_whole _) iM (Memref.isWhole_whole _) eM (Memref.isWhole_whole _) oM (Memref.isWhole_whole _) yM (Memref.isWhole_whole _) gM (Memref.isWhole_whole _) cc0_scratch2 cc0_scratch3)
    (fun _ => bodyPost m ρ c)
  rw [body_eq]
  exact sound_body m ρ c

end Cert.KernelIdeal.Hand

end
-- ==== Proof.KI.Run.lean ====
/- The launch: what the 32 devices are dealt, the shared records they make of it, what each owes and is owed, and the run of
   the whole program from it. -/
module

public import proofs.«01_k».proof.Proof.KI.Whole
public import proofs.«01_k».proof.Proof.Gen.KernelIdeal.Launch
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the 31 it sends on and the 31 it receives on. -/
abbrev osem : Fin 31 ⊕ Fin 31 → SemLoc sig := fun k => csem (.inr k)

set_option maxRecDepth 8000 in
theorem ownSemFacts : Pipeline.OwnSemFacts cfg0.spec osem := by decide +kernel

theorem share_eq (c : Dev nD) (w : Fin cfg0.W) : (dats m ρ 0 c).share w = fullShare := by unfold Dat.share; split <;> rfl

def exCells : Finset (GSem nD τ sig) := Finset.univ.map ⟨kcell, kcell_injective⟩

/-- The duty tokens of a device's own cells: its barrier's 31, each send cell's one, each receive cell's one. -/
abbrev TK : Type := Fin 31 ⊕ Fin 31 ⊕ Fin 31
abbrev tokOf (cj : Dev nD × TK) : GSem nD τ sig × ℕ × Fin 31 := match cj.2 with
  | .inl d => (barCell cj.1, 0, d) | .inr (.inl k) => (sendCell cj.1 k, 0, 0) | .inr (.inr k) => (recvCell cj.1 k, 0, 0)

theorem tokOf_injective : Function.Injective (tokOf : Dev nD × TK → GSem nD τ sig × ℕ × Fin 31) := by
  rintro ⟨c, j⟩ ⟨c', j'⟩ h
  rcases j with d | k | k <;> rcases j' with d' | k' | k' <;>
    have h1 := kcell_injective (congrArg Prod.fst h) <;>
    have h2 := congrArg (fun x : GSem nD τ sig × ℕ × Fin 31 => x.2.2) h <;>
    simp_all
def exToks : Finset (GSem nD τ sig × ℕ × Fin 31) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun d : Fin 31 => dutyTok ER (barCell c) 0 d)
    ∗ (bigSep Finset.univ fun k : Fin 31 => dutyTok ER (sendCell c k) 0 0)
    ∗ bigSep Finset.univ fun k : Fin 31 => dutyTok ER (recvCell c k) 0 0)

def G (c : Dev nD) : sProp 𝕄 :=
  iprop((bigSep Finset.univ fun k : CK => roundState ER (exRd m ρ) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m ρ K c)

/-- Separation over a device's cells, kind by kind. -/
theorem bigSep_ck (Φ : CK → sProp 𝕄) : bigSep Finset.univ Φ
    = iprop(Φ (.inl ()) ∗ (bigSep Finset.univ fun k : Fin 31 => Φ (.inr (.inl k))) ∗ bigSep Finset.univ fun k : Fin 31 => Φ (.inr (.inr k))) := by
  rw [bigSep_univ_sum, bigSep_univ_sum, Finset.univ_unique, bigSep_singleton]
  rfl
theorem bigSep_tk (Φ : TK → sProp 𝕄) : bigSep Finset.univ Φ
    = iprop((bigSep Finset.univ fun k : Fin 31 => Φ (.inl k)) ∗ (bigSep Finset.univ fun k : Fin 31 => Φ (.inr (.inl k))) ∗ bigSep Finset.univ fun k : Fin 31 => Φ (.inr (.inr k))) := by
  rw [bigSep_univ_sum, bigSep_univ_sum]
  rfl

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_tk]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun k : Fin 31 => semVal (sendCell c k) 0) ∗ bigSep Finset.univ fun k : Fin 31 => semVal (recvCell c k) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_ck]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m ρ K ∗ linear c) ⊢ G' m ρ c := by
  unfold G' ghost
  iintro H
  iexists K; iexact H

/-! ## The tokens dealt to the devices that pay them -/

/-- Barrier duty `d` of device `c` is the `rev d`-th signal of `c`'s `d`-th peer. -/
def barEq : Dev nD × Fin 31 ≃ Dev nD × Fin 31 where
  toFun p := (dst p.1 p.2, rev p.2)
  invFun p := (dst p.1 p.2, rev p.2)
  left_inv p := by rcases p with ⟨c, k⟩; show (dst (dst c k) (rev k), rev (rev k)) = _; rw [dst_rev, rev_rev]
  right_inv p := by rcases p with ⟨c, k⟩; show (dst (dst c k) (rev k), rev (rev k)) = _; rw [dst_rev, rev_rev]
def rcvEq : Dev nD × Fin 31 ≃ Dev nD × Fin 31 where
  toFun p := (dst p.1 p.2, p.2)
  invFun p := (src p.1 p.2, p.2)
  left_inv p := by rcases p with ⟨c, k⟩; show (src (dst c k) k, k) = _; rw [src_dst]
  right_inv p := by rcases p with ⟨c, k⟩; show (dst (src c k) k, k) = _; rw [dst_src]

theorem bar_around : (bigSep Finset.univ fun c : Dev nD => bigSep Finset.univ fun d : Fin 31 => (dutyTok ER (barCell c) 0 d : sProp 𝕄))
    = bigSep Finset.univ fun c : Dev nD => bigSep Finset.univ fun k : Fin 31 => dutyTok ER (barCell (dst c k)) 0 (rev k) := by
  rw [← bigSep_univ_prod (fun p : Dev nD × Fin 31 => (dutyTok ER (barCell p.1) 0 p.2 : sProp 𝕄)), bigSep_univ_equiv barEq, bigSep_univ_prod]
  rfl
theorem rcv_around : (bigSep Finset.univ fun c : Dev nD => bigSep Finset.univ fun k : Fin 31 => (dutyTok ER (recvCell c k) 0 0 : sProp 𝕄))
    = bigSep Finset.univ fun c : Dev nD => bigSep Finset.univ fun k : Fin 31 => dutyTok ER (recvCell (dst c k) k) 0 0 := by
  rw [← bigSep_univ_prod (fun p : Dev nD × Fin 31 => (dutyTok ER (recvCell p.1 p.2) 0 0 : sProp 𝕄)), bigSep_univ_equiv rcvEq, bigSep_univ_prod]
  rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, rcv_around]

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (exRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (exRd m ρ) κ (kcell ck) : sProp 𝕄))) $$ HI
  icases HK with ⟨%K, #HI⟩
  ihave Htk := (toks_around (F := F)) $$ Htok
  iapply (bigSep_beside (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rw [bigSep_ck])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed at launch -/

theorem oBar_apply (d : Dev nD) (g : GSem nD τ sig) : ∀ l : List (Fin 31),
    oBar d l g () = (l.map fun k => if g = barCell (dst d k) then 1 else 0).sum
  | [] => rfl
  | k :: l => by
    have : oBar d (k :: l) g () = oBar d l g () + (tallyAt (barCell (dst d k)) () 1 : CellTallies nD τ sig Unit) g () := rfl
    rw [this, tallyAt_apply, oBar_apply d g l, List.map_cons, List.sum_cons, Nat.add_comm]
    simp only [and_true]
theorem oRcv_apply (d : Dev nD) (g : GSem nD τ sig) : ∀ l : List (Fin 31),
    oRcv d l g () = (l.map fun k => if g = recvCell (dst d k) k then N else 0).sum
  | [] => rfl
  | k :: l => by
    have : oRcv d (k :: l) g () = oRcv d l g () + (tallyAt (recvCell (dst d k) k) () N : CellTallies nD τ sig Unit) g () := rfl
    rw [this, tallyAt_apply, oRcv_apply d g l, List.map_cons, List.sum_cons, Nat.add_comm]
    simp only [and_true]

theorem kcell_iff {p q : Dev nD × CK} : kcell p = kcell q ↔ p = q := kcell_injective.eq_iff

theorem owed_bar (d c : Dev nD) : O₀ d (barCell c) () = ∑ k : Fin 31, if d = src c k then 1 else 0 := by
  show oRcv d (List.finRange 31) (barCell c) () + oBar d (List.finRange 31) (barCell c) () = _
  rw [oRcv_apply, oBar_apply, ← Fin.sum_univ_def, ← Fin.sum_univ_def]
  have e1 : (∑ k : Fin 31, if barCell c = recvCell (dst d k) k then N else 0) = 0 :=
    Finset.sum_eq_zero fun k _ => if_neg fun h => by have := kcell_injective h; simp at this
  rw [e1, Nat.zero_add]
  refine Finset.sum_congr rfl fun k _ => if_congr ⟨fun h => ?_, fun h => ?_⟩ rfl rfl
  · have h' : c = dst d k := congrArg Prod.fst (kcell_injective h)
    rw [h', src_dst]
  · rw [h, dst_src]
theorem owed_recv (d c : Dev nD) (k : Fin 31) : O₀ d (recvCell c k) () = if d = src c k then N else 0 := by
  show oRcv d (List.finRange 31) (recvCell c k) () + oBar d (List.finRange 31) (recvCell c k) () = _
  rw [oRcv_apply, oBar_apply, ← Fin.sum_univ_def, ← Fin.sum_univ_def]
  have e1 : (∑ j : Fin 31, if recvCell c k = barCell (dst d j) then 1 else 0) = 0 :=
    Finset.sum_eq_zero fun j _ => if_neg fun h => by have := kcell_injective h; simp at this
  rw [e1, Nat.add_zero]
  have e2 : ∀ j : Fin 31, (if recvCell c k = recvCell (dst d j) j then N else 0) = if j = k then (if d = src c k then N else 0) else 0 := fun j => by
    by_cases hj : j = k
    · subst hj
      rw [if_pos rfl]
      refine if_congr ⟨fun h => ?_, fun h => ?_⟩ rfl rfl
      · have h' : c = dst d j := congrArg Prod.fst (kcell_injective h)
        rw [h', src_dst]
      · rw [h, dst_src]
    · rw [if_neg hj, if_neg fun h => hj ?_]
      have := congrArg Prod.snd (kcell_injective h)
      simp at this; exact this.symm
  rw [Finset.sum_congr rfl fun j _ => e2 j, Finset.sum_ite_eq' Finset.univ k, if_pos (Finset.mem_univ _)]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => Finset.sum_ite_eq' Finset.univ (src c k) fun _ => 1, Finset.sum_congr rfl fun k _ => if_pos (Finset.mem_univ _)]
  rfl
theorem launch_recv (c : Dev nD) (k : Fin 31) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (src c k) fun _ => N,
    if_pos (Finset.mem_univ _)]

/-- The 31 receive semaphores. -/
def rcvSems : Finset (SemLoc sig) := Finset.univ.map ⟨fun k : Fin 31 => csem (.inr (.inr k)), fun a b h => by
  have := csem_injective h; simpa using this⟩
theorem rcvSems_sub : rcvSems ⊆ Finset.univ.erase (SemLoc.reg barS) := fun s hs => by
  obtain ⟨k, -, rfl⟩ := Finset.mem_map.mp hs
  refine Finset.mem_erase.mpr ⟨fun h => ?_, Finset.mem_univ _⟩
  have : (Sum.inr (Sum.inr k) : CK) = .inl () := csem_injective h
  simp at this

theorem creds (c : Dev nD) : (Pipeline.launchCred O₀ c : sProp 𝕄) ⊢ creditsOf c := by
  unfold Pipeline.launchCred creditsOf
  rw [bigSep_univ_at _ (SemLoc.reg barS), launch_bar]
  refine sep_mono_right ((bigSep_subset rcvSems_sub).trans ?_)
  unfold rcvSems
  rw [bigSep_map]
  exact bigSep_mono fun k _ => Entails.of_eq (congrArg cred (launch_recv c k))

/-! ## The side conditions of the launch -/

/-- What stays out of the region: the operand no window reads. -/
def aside (c : Dev nD) : sProp 𝕄 := iprop((((c : Thread nD τ).loc main_arg1) ↦{fullShare} m ((c : Thread nD τ).loc main_arg1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ aside m c) := by
  rw [Pipeline.unscopedRestP_none, unscopedRest0_eq]
  iintro ⟨Ha, Hlev, Hcr, -, HG⟩
  ihave Hc := (creds (F := F) c) $$ Hcr
  imodintro
  unfold start G' aside
  isplitr [Ha]
  · isplitl [HG]; · iexact HG
    isplitl [Hc]; · iexact Hc
    iexact Hlev
  · iexact Ha

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

theorem aside_read (c : Dev nD) (s' : Phys nD τ sig (Elt F)) :
    iprop((aside m c : sProp 𝕄) ∗ SI s') ⊢ iprop(⌜s'.mem.mem ((c : Thread nD τ).loc main_arg1) = m ((c : Thread nD τ).loc main_arg1)⌝ ∗ SI s') := by
  have h := pointsTo_read_all (Ix := Unit) (Name := ℕ) (U := UU) (Lvl := ℕ) ({()} : Finset Unit) (fun _ => (c : Thread nD τ).loc main_arg1) (fun _ => m ((c : Thread nD τ).loc main_arg1)) (q := fullShare) s'
  rw [bigSep_singleton] at h
  unfold aside
  iintro H
  ihave H := h $$ H
  icases H with ⟨%hh, HSI⟩
  isplitr
  · ipureintro; exact hh () (Finset.mem_singleton_self _)
  · iexact HSI

/-! ## The run -/

/-- Every array after the run: the inputs as they were, the result at what the devices computed. -/
def QC : PUnit × MemSt nD τ sig (Elt F) → Prop := fun r => ∀ c : Dev nD,
  (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1)

set_option maxRecDepth 8000 in
/-- From any memory with zero counters every fair execution of the program ends, each array at `QC`, every counter at zero. -/
theorem run_main : θ_run defs (onTc (τ := τ) (main (F := F))) (st0 m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := aside m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Ha, HSI⟩
      ihave H := (aside_read m c s') $$ [Ha HSI]
      · isplitl [Ha] <;> iassumption
      icases H with ⟨%h1, HSI⟩
      imod (Pipeline.unscopedSems0_read (X := unscopedSems0 c) (c := c) fupd_intro s') $$ [Hu HSI] with ⟨%h2, HSI⟩
      · isplitl [Hu] <;> iassumption
      imodintro
      isplitr
      · ipureintro; exact ⟨h2, h1⟩
      · iexact HSI)
    (hQ := fun _ h hs => ⟨fun c => ⟨fun w => (h c).1 w, (h c).2.2.2⟩, sem_eq_zero hs fun c => (h c).2.2.1⟩)

end Cert.KernelIdeal.Hand

end
-- ==== Proof.KI.Arrays.lean ====
/- The arrays after the run: the result is what the last store left, the arguments are what they were; and each staged
   block is its whole array. -/
module

public import proofs.«01_k».proof.Proof.KI.Run
public import Idealize.ShloMosaic.Lib.Pipeline.Value

@[expose] public section

noncomputable section

namespace Cert.KernelIdeal.Hand

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- The tokens staged are the whole array of tokens. -/
theorem xstg_eq (c : Dev nD) : xstg m ρ c = m ((c : Thread nD τ).loc main_arg0) :=
  Memref.read_access_unit_zero (Elt F) main_arg0 (by funext a; fin_cases a <;> rfl) _ _
/-- The indices staged are the whole array of indices. -/
theorem istg_eq (c : Dev nD) : istg m ρ c = m ((c : Thread nD τ).loc main_arg2) :=
  Memref.read_access_unit_zero (Elt F) main_arg2 (by funext a; fin_cases a <;> rfl) _ _
/-- The weights staged are the device's whole block of weights. -/
theorem estg_eq (c : Dev nD) : estg m ρ c = m ((c : Thread nD τ).loc main_arg3) :=
  Memref.read_access_unit_zero (Elt F) main_arg3 (by funext a; fin_cases a <;> rfl) _ _

/-- The result array after the run is the block the body computed. -/
theorem result_eq (c : Dev nD) : (dats m ρ 0 c).arrAt 3 cfg0.N = outAt m ρ c := by
  have h := (dats m ρ 0 c).arrAt_succ 3 (0 : Fin 1)
  rw [if_pos (show (cfg0.win 3).flush (0 : Fin 1) = true from by decide)] at h
  exact h.trans (Memref.write_access_unit_zero_univ (Elt F) main_v1 (by funext a; fin_cases a <;> rfl) _ _ _)

/-- Every fair run ends with the result at `outAt`, the arguments unchanged and the counters at zero. -/
theorem run_args : θ_run (defs (F := F)) (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c =>
    ⟨((h.1 c).1 3).trans (result_eq m ρ c),
      ((h.1 c).1 0).trans ((dats m ρ 0 c).arrAt_in 0 rfl _),
      (h.1 c).2,
      ((h.1 c).1 1).trans ((dats m ρ 0 c).arrAt_in 1 rfl _),
      ((h.1 c).1 2).trans ((dats m ρ 0 c).arrAt_in 2 rfl _)⟩, h.2⟩) (run_main m ρ)

end Cert.KernelIdeal.Hand

end
-- ==== Proof.Frames.lean ====
/- Every run of each of the three programs ends, with its arguments unchanged and its counters at zero. -/
module

public import proofs.«01_k».proof.Defs
public import proofs.«01_k».proof.Proof.K.Arrays
public import proofs.«01_k».proof.Proof.KI.Arrays
public import proofs.«01_k».proof.Proof.Gen.ReferenceIdeal.Run
public import Idealize.ShloMosaic.Lib.Quiescent

@[expose] public section

noncomputable section

namespace Cert.Proof

open Idealize.ShloMosaic Idealize.SL.Sem

/-- The kernel on bit patterns: it ends, the arguments are unchanged, and every counter is back at zero. -/
theorem frameK : Cert.quiescent_Kernel := fun m ρ _ =>
  (θ_run Cert.Kernel.defs _ _).mono (fun r h => ⟨fun c => (h.1 c).2, h.2⟩) (Cert.Kernel.Hand.run_args (F := Bits) m ρ)

/-- The kernel on extended reals: it ends, the arguments are unchanged, and every counter is back at zero. -/
theorem frameKI : Cert.quiescent_KernelIdeal := fun m ρ _ =>
  (θ_run Cert.KernelIdeal.defs _ _).mono (fun r h => ⟨fun c => (h.1 c).2, h.2⟩)
    (Cert.KernelIdeal.Hand.run_args (F := Ideal) m ρ)

/-- The reference on extended reals: it ends and leaves its arguments unchanged; it has no counter. -/
theorem frameRI : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Rank.lean ====
/- The problem's mathematics, apart from any program: a token's rank among the tokens of its expert, the row it gets,
   and the sums in which one term only is not zero. -/
module

public import Idealize.ShloMosaic.PureOps.Ideal
public import Idealize.ShloMosaic.Lib.Pointwise

@[expose] public section

noncomputable section

namespace Cert.Moe

open Idealize.ShloMosaic

/-- How many earlier tokens chose the expert that token `t` chose. -/
def rk (w : Fin 512 → BitVec 32) (t : Fin 512) : ℕ := (Finset.univ.filter fun i => i < t ∧ w i = w t).card

/-- The row of token `t`: its product with its expert's matrix when the expert exists and has room, else zero. -/
def row (x : Fin 512 → Fin 256 → EReal) (W : Fin 128 → Fin 256 → Fin 512 → EReal) (w : Fin 512 → BitVec 32)
    (t l : Fin 512) : EReal :=
  if h : (w t).toNat < 128 ∧ rk w t < 3 then ∑ k : Fin 256, x t k * W ⟨(w t).toNat, h.1⟩ k l else 0

/-- Of two tokens of one expert the later has the greater rank. -/
theorem rk_lt (w : Fin 512 → BitVec 32) {s t : Fin 512} (hst : s < t) (hw : w s = w t) : rk w s < rk w t := by
  apply Finset.card_lt_card
  rw [Finset.ssubset_iff_of_subset]
  · exact ⟨s, by simp [hst, hw], by simp⟩
  · intro i hi
    simp only [Finset.mem_filter, Finset.mem_univ, true_and] at hi ⊢
    exact ⟨hi.1.trans hst, hi.2.trans hw⟩

/-- The expert and the rank together name the token. -/
theorem rk_inj (w : Fin 512 → BitVec 32) {s t : Fin 512} (hw : w s = w t) (hr : rk w s = rk w t) : s = t := by
  rcases lt_trichotomy s t with h | h | h
  · exact absurd hr (rk_lt w h hw).ne
  · exact h
  · exact absurd hr.symm (rk_lt w h hw.symm).ne

/-- The number read from a bit that is a truth value. -/
theorem sitofp_bit (b : BitVec 1) : (FloatOps.sitofp (F := Ideal) .f32 (b.setWidth 32) : EReal) = if b = 1#1 then 1 else 0 := by
  have h : b = 0#1 ∨ b = 1#1 := by revert b; decide
  show (((b.setWidth 32).toInt : ℝ) : EReal) = _
  rcases h with rfl | rfl
  · rw [show ((0#1).setWidth 32).toInt = 0 by decide, if_neg (by decide)]; simp
  · rw [show ((1#1).setWidth 32).toInt = 1 by decide, if_pos rfl]; simp

/-- A comparison for equality gives the bit 1 exactly when the words are equal. -/
theorem eq_bit (a b : BitVec 32) : IntOp.cmpi .eq a b = 1#1 ↔ a = b := by
  show BitVec.ofBool (decide (a = b)) = 1#1 ↔ a = b
  by_cases h : a = b <;> simp [h]

/-- Both bits are 1 exactly when their conjunction is. -/
theorem and_bit (a b : BitVec 1) : IntOp.andi a b = 1#1 ↔ a = 1#1 ∧ b = 1#1 := by
  revert a b; decide

/-- A truth value's bit is 1 exactly when it holds. -/
theorem ofBool_bit (p : Prop) [Decidable p] : BitVec.ofBool (decide p) = 1#1 ↔ p := by
  by_cases h : p <;> simp [h]

/-- The signed comparison of two small numbers' words. -/
theorem slt_bit (a b : ℕ) (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ a < b
  rw [BitVec.slt, BitVec.toInt_eq_toNat_of_lt (by simp; omega), BitVec.toInt_eq_toNat_of_lt (by simp; omega), ofBool_bit]
  simp; omega

/-- A small number's word read as a number. -/
theorem sitofp_ofNat (n : ℕ) (h : n < 2 ^ 31) : (FloatOps.sitofp (F := Ideal) .f32 (BitVec.ofNat 32 n) : EReal) = (n : EReal) := by
  show (((BitVec.ofNat 32 n).toInt : ℝ) : EReal) = _
  rw [BitVec.toInt_eq_toNat_of_lt (by simp; omega), BitVec.toNat_ofNat, Nat.mod_eq_of_lt (by omega)]
  simp

/-- Two small numbers are equal when their words are. -/
theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- A sum of truth values counts them. -/
theorem sum_bits {n : ℕ} (p : Fin n → Prop) [DecidablePred p] :
    (∑ i, if p i then (1 : EReal) else 0) = ((Finset.univ.filter p).card : EReal) := Finset.sum_boole _ _

/-- A sum with truth values as weights, of which one at most is true, is that one's term. -/
theorem sum_pick {n : ℕ} (p : Fin n → Prop) [DecidablePred p] (f : Fin n → EReal) (i : Fin n) (hi : p i)
    (hu : ∀ j, p j → j = i) : (∑ j, (if p j then (1 : EReal) else 0) * f j) = f i := by
  rw [Finset.sum_eq_single i]
  · simp [hi]
  · intro j _ hj
    rw [if_neg (fun h => hj (hu j h)), zero_mul]
  · simp

/-- A sum with truth values as weights, none true, is zero. -/
theorem sum_none {n : ℕ} (p : Fin n → Prop) [DecidablePred p] (f : Fin n → EReal) (h : ∀ j, ¬ p j) :
    (∑ j, (if p j then (1 : EReal) else 0) * f j) = 0 :=
  Finset.sum_eq_zero fun j _ => by rw [if_neg (h j), zero_mul]

end Cert.Moe

end
-- ==== Proof.KI.Pay.lean ====
/- What the body computes, over the extended reals, read at an index. -/
module

public import proofs.«01_k».proof.Proof.KI.Arrays
public import proofs.«01_k».proof.Proof.Rank

@[expose] public section

noncomputable section

namespace Cert.KernelIdeal.Hand

open Cert.KernelIdeal Cert.KernelIdeal.Gen
open Idealize.ShloMosaic
open Cert.Moe

/-- The indices as a list of words. -/
def words (v : Vec Ideal S512x1 .i32) (j : Fin 512) : BitVec 32 := v (ix2 j 0)

/-- The first expert of a device plus a small number, as a word. -/
theorem expert_word : ∀ (d : Dev nD) (e : Fin 8), IntOp.addi (Scalar.muli (place d) 4#32) (BitVec.ofNat 32 e.val)
    = BitVec.ofNat 32 (4 * d.val + e.val) := by decide +kernel

/-- A device's place is its number. -/
theorem place_word : ∀ d : Dev nD, place d = BitVec.ofNat 32 d.val := by decide +kernel

/-- The ranks the body counts: of a token of the device's own expert `e`, the number of earlier tokens of that expert. -/
theorem ranks_at (d : Dev nD) (v : Vec Ideal S512x1 .i32) (j : Fin 512) (e : Fin 4)
    (he : words v j = BitVec.ofNat 32 (4 * d.val + e.val)) :
    k0_pay2 (F := Ideal) (place d) v (ix1 j) = (rk (words v) j : EReal) := by
  pointwise [k0_pay2, k0_pay1]
  simp only [sitofp_bit, eq_bit, slt_bit _ _ (lt_trans (Fin.is_lt _) (by norm_num : 512 < 2 ^ 31)) (lt_trans (Fin.is_lt _) (by norm_num : 512 < 2 ^ 31))]
  have hd : d.val < 32 := d.isLt
  have hw : ∀ e' : Fin 4, IntOp.addi (Scalar.muli (place d) 4#32) (BitVec.ofNat 32 e'.val) = BitVec.ofNat 32 (4 * d.val + e'.val) :=
    fun e' => expert_word d ⟨e'.val, by omega⟩
  simp only [hw]
  have hj : v (ix2 j 0) = BitVec.ofNat 32 (4 * d.val + e.val) := he
  rw [sum_pick _ _ e hj]
  · unfold rk
    rw [← sum_bits]
    refine Finset.sum_congr rfl fun i _ => ?_
    rw [he]
    by_cases h1 : i < j <;> by_cases h2 : words v i = BitVec.ofNat 32 (4 * d.val + e.val)
    all_goals
      have h2' := h2
      unfold words at h2'
      simp [h1, h2, h2']
  · intro e' he'
    rw [hj] at he'
    have := ofNat_inj (by omega) (by omega) he'
    exact Fin.ext (by omega)

/-- The mask of a token's expert: set where the token chose the device's expert `r / 3`. -/
theorem rowMask_at (d : Dev nD) (v : Vec Ideal S512x1 .i32) (r : Fin 16) (j : Fin 512) :
    rowMask (F := Ideal) d v (ix2 r j) = 1#1 ↔ words v j = BitVec.ofNat 32 (4 * d.val + r.val / 3) := by
  pointwise [rowMask, k0_pay4, k0_pay3, k0_pay1]
  rw [eq_bit]
  refine Eq.congr_right ?_
  refine Eq.trans (congrArg (IntOp.addi (Scalar.muli (place d) 4#32)) (?_ : _ = BitVec.ofNat 32 (r.val / 3))) ?_
  · revert r; decide +kernel
  · have := r.isLt
    exact expert_word d ⟨r.val / 3, by omega⟩

/-- The mask of a token's rank: set where the rank is `r % 3`. -/
theorem rankMask_at (d : Dev nD) (v : Vec Ideal S512x1 .i32) (r : Fin 16) (j : Fin 512) (e : Fin 4)
    (he : words v j = BitVec.ofNat 32 (4 * d.val + e.val)) :
    rankMask (F := Ideal) d v (ix2 r j) = 1#1 ↔ rk (words v) j = r.val % 3 := by
  pointwise [rankMask, k0_pay5]
  rw [ofBool_bit, ranks_at d v j e he]
  refine Iff.trans (Eq.congr_right (Eq.trans (congrArg (FloatOps.sitofp (F := Ideal) .f32) (?_ : _ = BitVec.ofNat 32 (r.val % 3)))
    (sitofp_ofNat _ (by omega)))) ?_
  · revert r; decide +kernel
  · exact_mod_cast Iff.rfl

/-- The rank within an expert, as a word. -/
theorem part_word : ∀ r : Fin 16, k0_pay7 (ix2 r 0) = BitVec.ofNat 32 (r.val / 3) := by
  intro r
  pointwise [k0_pay7]
  revert r; decide +kernel

/-- The tokens gathered for the device's experts: row `r` is the token of expert `r / 3` and rank `r % 3`. -/
theorem xg_at (d : Dev nD) (v : Vec Ideal S512x1 .i32) (x : Vec Ideal S512x256 .f32) (r : Fin 16) (k : Fin 256) (t : Fin 512)
    (hr : r.val < 12) (hw : words v t = BitVec.ofNat 32 (4 * d.val + r.val / 3)) (hk : rk (words v) t = r.val % 3) :
    k0_pay6 (F := Ideal) (iota .tc S16x512 32 [0] iota_S16x512_d0_w32) (rowMask d v) (rankMask d v) x (ix2 r k) = x (ix2 t k) := by
  pointwise [k0_pay6]
  have hm : ∀ j : Fin 512, IntOp.andi (IntOp.andi (rowMask (F := Ideal) d v (ix2 r j)) (rankMask d v (ix2 r j)))
      (IntOp.cmpi .slt (BitVec.ofNat 32 r.val) 12#32) = 1#1 ↔ words v j = words v t ∧ rk (words v) j = rk (words v) t := by
    intro j
    rw [and_bit, and_bit, rowMask_at, hw, hk]
    constructor
    · rintro ⟨⟨h1, h2⟩, _⟩
      exact ⟨h1, (rankMask_at d v r j ⟨r.val / 3, by omega⟩ h1).1 h2⟩
    · rintro ⟨h1, h2⟩
      exact ⟨⟨h1, (rankMask_at d v r j ⟨r.val / 3, by omega⟩ h1).2 h2⟩, (slt_bit r.val 12 (by omega) (by omega)).2 hr⟩
  simp only [sitofp_bit, hm]
  exact sum_pick _ _ t ⟨rfl, rfl⟩ fun j hj => rk_inj _ hj.1 hj.2

/-- A choice by a word that is one of two small numbers. -/
theorem select_word (a b : ℕ) (ha : a < 2 ^ 32) (hb : b < 2 ^ 32) (x y : EReal) :
    Scalar.select (IntOp.cmpi .eq (BitVec.ofNat 32 a) (BitVec.ofNat 32 b)) x y = if a = b then x else y := by
  show (if IntOp.cmpi .eq (BitVec.ofNat 32 a) (BitVec.ofNat 32 b) = 1#1 then x else y) = _
  by_cases h : a = b
  · subst h; rw [if_pos ((eq_bit _ _).2 rfl), if_pos rfl]
  · rw [if_neg (fun h' => h (ofNat_inj ha hb ((eq_bit _ _).1 h'))), if_neg h]

/-- The device's results: row `r` is its gathered token by the matrix of expert `r / 3`. -/
theorem y_at (d : Dev nD) (v : Vec Ideal S512x1 .i32) (x : Vec Ideal S512x256 .f32) (w : Fin 4 → Vec Ideal S1x256x512 .f32)
    (r : Fin 16) (l : Fin 512) (e : Fin 4) (he : r.val / 3 = e.val) :
    yVal (F := Ideal) d v x (w 0) (w 1) (w 2) (w 3) (ix2 r l)
      = ∑ k : Fin 256, k0_pay6 (F := Ideal) (iota .tc S16x512 32 [0] iota_S16x512_d0_w32) (rowMask d v) (rankMask d v) x (ix2 r k)
          * w e (ix3 0 k l) := by
  pointwise [yVal, k0_pay12, k0_pay11, k0_pay10, k0_pay9, k0_pay8]
  simp only [part_word]
  have hs : ∀ (n : ℕ) (_ : n < 4) (a b : EReal),
      Scalar.select (IntOp.cmpi .eq (BitVec.ofNat 32 (r.val / 3)) (BitVec.ofNat 32 n)) a b = if e.val = n then a else b := by
    intro n hn a b
    rw [he, select_word _ _ (by omega) (by omega)]
  simp only [hs 0 (by decide), hs 1 (by decide), hs 2 (by decide), hs 3 (by decide)]
  fin_cases e <;> simp

/-- The column of the combine matrix within its slot, as a word. -/
theorem col_word : ∀ (a : Fin 16) (j : Fin 512), k0_pay18 (ix2 a j) = BitVec.ofNat 32 (j.val % 16) := by
  intro a j
  pointwise [k0_pay18]
  revert j; decide +kernel

/-- The slot of a column of the combine matrix, as a word. -/
theorem slot_word : ∀ (a : Fin 16) (j : Fin 512), k0_pay17 (ix2 a j) = BitVec.ofNat 32 (j.val / 16) := by
  intro a j
  pointwise [k0_pay17]
  revert j; decide +kernel

/-- The device whose rows a slot holds, times four, as a word. -/
theorem owner_word (d : Dev nD) (a : Fin 16) (j : Fin 512) :
    k0_pay20 (place d) k0_pay17 k0_pay19 (ix2 a j)
      = BitVec.ofNat 32 (4 * (owner d ⟨j.val / 16, by have := j.isLt; omega⟩).val) := by
  have hj : j.val / 16 < 32 := by have := j.isLt; omega
  generalize hu : (⟨j.val / 16, hj⟩ : Fin 32) = u
  have hu' : j.val / 16 = u.val := by rw [← hu]
  pointwise [k0_pay20, k0_pay19]
  simp only [slot_word, hu']
  clear hu hu' hj
  revert d u; decide +kernel

/-- The row of the gather buffer a token's result lies in: the token's expert is the row's and its rank the row's. -/
def picks (w : Fin 512 → BitVec 32) (d : Dev nD) (t j : Fin 512) : Prop :=
  (w t = BitVec.ofNat 32 (4 * (owner d ⟨j.val / 16, by have := j.isLt; omega⟩).val + j.val % 16 / 3) ∧ rk w t = j.val % 16 % 3)
    ∧ j.val % 16 < 12

instance (w : Fin 512 → BitVec 32) (d : Dev nD) (t j : Fin 512) : Decidable (picks w d t j) := by unfold picks; infer_instance

/-- The expert within its device of a row of a slot, as a word. -/
theorem third_word : ∀ q : Fin 16, Scalar.select
    (IntOp.andi
      (IntOp.cmpi .ne
        (IntOp.subi (BitVec.setWidth 32 (IntOp.cmpi .sgt (BitVec.ofNat 32 q.val) 0#32))
          (BitVec.setWidth 32 (IntOp.cmpi .slt (BitVec.ofNat 32 q.val) 0#32)))
        (Scalar.subi (Scalar.extui (Scalar.cmpi .sgt 3#32 0#32)) (Scalar.extui (Scalar.cmpi .slt 3#32 0#32))))
      (IntOp.cmpi .ne (IntOp.remsi ArithUnit.vector (BitVec.ofNat 32 q.val) 3#32) 0#32))
    (IntOp.subi (IntOp.divsi ArithUnit.vector (BitVec.ofNat 32 q.val) 3#32) 1#32)
    (IntOp.divsi ArithUnit.vector (BitVec.ofNat 32 q.val) 3#32) = BitVec.ofNat 32 (q.val / 3) := by decide +kernel

/-- The ranks the body counts for its own tokens. -/
theorem own_ranks (d : Dev nD) (v : Vec Ideal S512x1 .i32) (a : Fin 16) (t : Fin 512) (ht : t.val = 16 * d.val + a.val) :
    (∑ i : Fin 512, FloatOps.sitofp (F := Ideal) .f32 (BitVec.setWidth 32
      (IntOp.andi (IntOp.cmpi .eq (words v t) (v (ix2 i 0)))
        (IntOp.cmpi .slt (BitVec.ofNat 32 i.val) (IntOp.addi (Scalar.muli (place d) 16#32) (BitVec.ofNat 32 a.val))))))
      = (rk (words v) t : EReal) := by
  have hw : IntOp.addi (Scalar.muli (place d) 16#32) (BitVec.ofNat 32 a.val) = BitVec.ofNat 32 t.val := by
    rw [ht]
    clear ht
    revert d a; decide +kernel
  rw [hw]
  unfold rk
  rw [← sum_bits]
  refine Finset.sum_congr rfl fun i _ => ?_
  have hi := i.isLt
  have htl := t.isLt
  rw [sitofp_bit]
  refine if_congr ?_ rfl rfl
  rw [and_bit, eq_bit, slt_bit _ _ (by omega) (by omega)]
  exact ⟨fun h => ⟨h.2, h.1.symm⟩, fun h => ⟨h.2.symm, h.1⟩⟩

/-- The combine matrix of a device's sixteen tokens. -/
theorem dmat_at (d : Dev nD) (v : Vec Ideal S512x1 .i32) (v' : Vec Ideal S16x1 .i32) (a : Fin 16) (j t : Fin 512)
    (ht : t.val = 16 * d.val + a.val) (hv : v' (ix2 a 0) = words v t) :
    dmat (F := Ideal) d v v' (ix2 a j) = if picks (words v) d t j then (1 : EReal) else 0 := by
  pointwise [dmat, k0_pay23, k0_pay16, k0_pay15, k0_pay14, k0_pay1, k0_pay21, k0_pay22]
  rw [hv, own_ranks d v a t ht, col_word, owner_word, sitofp_bit]
  refine if_congr ?_ rfl rfl
  rw [and_bit, and_bit, eq_bit, ofBool_bit]
  have hq : j.val % 16 < 16 := Nat.mod_lt _ (by decide)
  have ho := (owner d ⟨j.val / 16, by have := j.isLt; omega⟩).isLt
  refine and_congr (and_congr ?_ ?_) (slt_bit _ 12 (by omega) (by omega))
  · rw [third_word ⟨j.val % 16, hq⟩]
    refine Eq.congr_right ?_
    exact (BitVec.ofNat_add _ _).symm
  · refine Iff.trans (Eq.congr_right (Eq.trans (congrArg (FloatOps.sitofp (F := Ideal) .f32)
      (?_ : _ = BitVec.ofNat 32 (j.val % 16 % 3))) (sitofp_ofNat _ (by omega)))) ?_
    · generalize hr : (⟨j.val % 16, hq⟩ : Fin 16) = r
      have hr' : j.val % 16 = r.val := by rw [← hr]
      rw [hr']
      clear hr hr' ho
      revert r; decide +kernel
    · exact_mod_cast Iff.rfl

/-- A slot's owner names the slot. -/
theorem owner_val (d : Dev nD) (u : Fin 32) : (owner d u).val = (d.val + (31 - u.val)) % 32 := rfl

/-- One row of the gather buffer at most is a token's. -/
theorem picks_inj (w : Fin 512 → BitVec 32) (d : Dev nD) (t j j' : Fin 512) (h : picks w d t j) (h' : picks w d t j') : j = j' := by
  obtain ⟨⟨h1, h2⟩, h3⟩ := h
  obtain ⟨⟨h1', h2'⟩, h3'⟩ := h'
  have hd : d.val < 32 := d.isLt
  have hj := j.isLt
  have hj' := j'.isLt
  have he := ofNat_inj (by simp only [owner_val]; omega) (by simp only [owner_val]; omega) (h1.symm.trans h1')
  simp only [owner_val] at he
  exact Fin.ext (by omega)

/-- A token with an expert and room there has a row of the gather buffer, and no other token has. -/
theorem picks_iff (w : Fin 512 → BitVec 32) (d : Dev nD) (t : Fin 512) : (∃ j, picks w d t j) ↔ (w t).toNat < 128 ∧ rk w t < 3 := by
  have hd : d.val < 32 := d.isLt
  constructor
  · rintro ⟨j, ⟨h1, h2⟩, h3⟩
    have hj := j.isLt
    refine ⟨?_, by omega⟩
    rw [h1, BitVec.toNat_ofNat, owner_val]
    refine lt_of_le_of_lt (Nat.mod_le _ _) ?_
    have : j.val % 16 / 3 < 4 := by omega
    simp only
    omega
  · rintro ⟨h1, h2⟩
    have hu : (d.val + 31 - (w t).toNat / 4) % 32 < 32 := Nat.mod_lt _ (by decide)
    generalize hu' : (d.val + 31 - (w t).toNat / 4) % 32 = u at hu
    generalize hq : 3 * ((w t).toNat % 4) + rk w t = q
    have hq' : q < 12 := by omega
    have e1 : (16 * u + q) / 16 = u := by omega
    have e2 : (16 * u + q) % 16 = q := by omega
    refine ⟨⟨16 * u + q, by omega⟩, ⟨?_, ?_⟩, ?_⟩
    · apply BitVec.eq_of_toNat_eq
      rw [BitVec.toNat_ofNat, owner_val]
      simp only [e1, e2]
      rw [Nat.mod_eq_of_lt (by omega)]
      omega
    · simp only [e2]; omega
    · simp only [e2]; omega

/-- The device's block of the result: row `a` is the row of its token `a`. -/
theorem out_at (d : Dev nD) (v : Vec Ideal S512x1 .i32) (v' : Vec Ideal S16x1 .i32) (x : Vec Ideal S512x256 .f32)
    (W : Fin 128 → Fin 256 → Fin 512 → EReal) (g : Vec Ideal S512x512 .bf16)
    (w : Dev nD → Fin 4 → Vec Ideal S1x256x512 .f32)
    (hw : ∀ (s : Dev nD) (e : Fin 4) (k : Fin 256) (l : Fin 512),
      w s e (ix3 0 k l) = W ⟨4 * s.val + e.val, by have h : s.val < 32 := s.isLt; omega⟩ k l)
    (hg : ∀ j l : Fin 512, g (ix2 j l)
      = yVal (F := Ideal) (owner d ⟨j.val / 16, by have := j.isLt; omega⟩) v x
          (w (owner d ⟨j.val / 16, by have := j.isLt; omega⟩) 0) (w (owner d ⟨j.val / 16, by have := j.isLt; omega⟩) 1)
          (w (owner d ⟨j.val / 16, by have := j.isLt; omega⟩) 2) (w (owner d ⟨j.val / 16, by have := j.isLt; omega⟩) 3)
          (ix2 ⟨j.val % 16, Nat.mod_lt _ (by decide)⟩ l))
    (a : Fin 16) (t l : Fin 512) (ht : t.val = 16 * d.val + a.val) (hv : v' (ix2 a 0) = words v t) :
    k0_pay24 (F := Ideal) (dmat (F := Ideal) d v v') g (ix2 a l) = row (fun t k => x (ix2 t k)) W (words v) t l := by
  have hp : k0_pay24 (F := Ideal) (dmat (F := Ideal) d v v') g (ix2 a l)
      = ∑ j : Fin 512, (if picks (words v) d t j then (1 : EReal) else 0) * g (ix2 j l) := by
    pointwise [k0_pay24]
    exact Finset.sum_congr rfl fun j _ => by rw [dmat_at d v v' a j t ht hv]
  rw [hp]
  unfold row
  by_cases h : ∃ j, picks (words v) d t j
  · rw [dif_pos ((picks_iff _ d t).1 h)]
    obtain ⟨j, hj⟩ := h
    rw [sum_pick _ _ j hj fun j' hj' => picks_inj _ d t j' j hj' hj, hg]
    have hj0 := hj
    obtain ⟨⟨h1, h2⟩, h3⟩ := hj0
    rw [y_at _ v x _ ⟨j.val % 16, Nat.mod_lt _ (by decide)⟩ l ⟨j.val % 16 / 3, by omega⟩ rfl]
    refine Finset.sum_congr rfl fun k _ => ?_
    rw [xg_at _ v x ⟨j.val % 16, Nat.mod_lt _ (by decide)⟩ k t h3 h1 h2, hw]
    refine congrArg (fun e => x (ix2 t k) * W e k l) (Fin.ext ?_)
    have hd : (owner d ⟨j.val / 16, by have := j.isLt; omega⟩).val < 32 := Fin.isLt _
    simp only [h1, BitVec.toNat_ofNat]
    omega
  · rw [dif_neg fun h' => h ((picks_iff _ d t).2 h')]
    exact sum_none _ _ fun j hj => h ⟨j, hj⟩

end Cert.KernelIdeal.Hand

end
-- ==== Proof.KI.Out.lean ====
/- Each device's block of the result, from the arrays it is given. -/
module

public import proofs.«01_k».proof.Proof.KI.Pay
public import Idealize.ShloMosaic.Lib.Layout

@[expose] public section

noncomputable section

namespace Cert.KernelIdeal.Hand

open Cert.KernelIdeal Cert.KernelIdeal.Gen
open Idealize.ShloMosaic
open Idealize.ShloMosaic.TcCoe
open Cert.Moe

variable (m : (ℓ : Loc nD τ sig) → Buf (Elt Ideal) ℓ) (ρ : Dev nD → PrngReg)

/-- The read of one expert's matrix out of the device's four. -/
theorem eRd_at (f : Vec Ideal S4x256x512 .f32) (e : Fin 4) (off : Fin 3 → Nat) (ho : off = ![e.val, 0, 0]) (h) (k : Fin 256) (l : Fin 512) :
    eRd (F := Ideal) off h f (ix3 0 k l) = f (ix3 e k l) := by
  subst ho
  show f ((Rect.unit (s := S4x256x512) ![e.val, 0, 0] S1x256x512.size h).toLoadRect.idx (ix3 0 k l)) = _
  refine congrArg f ?_
  funext b
  apply Fin.ext
  match b with
  | 0 => show e.val + 1 * 0 = e.val; omega
  | 1 => show 0 + 1 * k.val = k.val; omega
  | 2 => show 0 + 1 * l.val = l.val; omega

/-- Where the device's own indices begin. -/
theorem own_off : ∀ c : Dev nD, k0_off1 c 0 = 16 * c.val := by decide +kernel

/-- The read of the device's own sixteen indices. -/
theorem ownIdx_at (c : Dev nD) (a : Fin 16) (t : Fin 512) (ht : t.val = 16 * c.val + a.val) :
    ownIdx m ρ c (ix2 a 0) = words (istg m ρ c) t := by
  show (istg m ρ c) ((Rect.unit (s := S512x1) (k0_off1 c) S16x1.size (k0_off1_inb c)).toLoadRect.idx (ix2 a 0)) = (istg m ρ c) (ix2 t 0)
  refine congrArg (istg m ρ c) ?_
  funext b
  apply Fin.ext
  match b with
  | 0 =>
    show k0_off1 c 0 + 1 * a.val = t.val
    rw [own_off]; omega
  | 1 => rfl

/-- The gather buffer at a row and column. -/
theorem gathered_at (c : Dev nD) (j l : Fin 512) :
    gathered m ρ c (ix2 j l) = yAt m ρ (owner c ⟨j.val / 16, by have := j.isLt; omega⟩) (ix2 ⟨j.val % 16, Nat.mod_lt _ (by decide)⟩ l) := by
  refine congrArg (yAt m ρ (owner c ⟨j.val / 16, by have := j.isLt; omega⟩)) ?_
  funext b
  match b with
  | 0 => rfl
  | 1 => rfl

/-- The expert matrices of a device, one by one. -/
def expert (E : Vec Ideal S4x256x512 .f32) (e : Fin 4) : Vec Ideal S1x256x512 .f32 := fun i => E (ix3 e (i 1) (i 2))

/-- The read of one expert's matrix is that matrix. -/
theorem eRd_eq (f : Vec Ideal S4x256x512 .f32) (e : Fin 4) (off : Fin 3 → Nat) (ho : off = ![e.val, 0, 0]) (h) :
    eRd (F := Ideal) off h f = expert f e := by
  funext i
  have hi : i = ix3 0 (i 1) (i 2) := by
    funext b
    match b with
    | 0 => exact Subsingleton.elim (α := Fin 1) _ _
    | 1 => rfl
    | 2 => rfl
  exact (congrArg (eRd (F := Ideal) off h f) hi).trans (eRd_at f e off ho h (i 1) (i 2))

/-- When the devices hold copies of the tokens and of the indices, and each its block of the matrices, each ends with
    its block of the rows. -/
theorem outAt_at (X : Vec Ideal S512x256 .f32) (I : Vec Ideal S512x1 .i32) (E : Vec Ideal ⟨3, ![128, 256, 512]⟩ .f32)
    (hX : ∀ c : Dev nD, m ((c : Thread nD τ).loc main_arg0) = X) (hI : ∀ c : Dev nD, m ((c : Thread nD τ).loc main_arg2) = I)
    (hT : Layout.Tiles ⟨3, ![4, 256, 512]⟩ ⟨3, ![128, 256, 512]⟩ 0 32)
    (hE : ∀ c : Dev nD, m ((c : Thread nD τ).loc main_arg3) = Layout.block ⟨3, ![4, 256, 512]⟩ ⟨3, ![128, 256, 512]⟩ 0 32 c E hT)
    (c : Dev nD) (a : Fin 16) (t l : Fin 512) (ht : t.val = 16 * c.val + a.val) :
    outAt m ρ c (ix2 a l) = row (fun t k => X (ix2 t k)) (fun e k l => E (ix3 e k l)) (words I) t l := by
  unfold outAt
  have hi : ∀ s, istg m ρ s = I := fun s => (istg_eq m ρ s).trans (hI s)
  have hx : ∀ s, xstg m ρ s = X := fun s => (xstg_eq m ρ s).trans (hX s)
  rw [← hi c]
  refine out_at c (istg m ρ c) (ownIdx m ρ c) X (fun e k l => E (ix3 e k l)) (gathered m ρ c)
    (fun s e => expert (estg m ρ s) e) ?_ ?_ a t l ht (ownIdx_at m ρ c a t ht)
  · intro s e k l
    show (estg m ρ s) (ix3 e k l) = _
    rw [estg_eq, hE s, Layout.block_apply]
    refine congrArg E ?_
    funext b
    apply Fin.ext
    rw [Layout.Tiles.idx_val]
    match b with
    | 0 => show s.val * 4 + e.val = 4 * s.val + e.val; omega
    | 1 => rfl
    | 2 => rfl
  · intro j l
    rw [gathered_at]
    unfold yAt
    rw [eRd_eq _ 0 ![0, 0, 0] rfl, eRd_eq _ 1 ![1, 0, 0] rfl, eRd_eq _ 2 ![2, 0, 0] rfl, eRd_eq _ 3 ![3, 0, 0] rfl, hx, hi, hi]

end Cert.KernelIdeal.Hand

end
-- ==== Proof.RI.Step.lean ====
/- One trip of the reference's loop, read at an index: token `i`'s expert, whether it has room, its row, the new counts. -/
module

public import proofs.«01_k».proof.Proof.Gen.ReferenceIdeal.Run
public import proofs.«01_k».proof.Proof.Rank
public import Idealize.ShloMosaic.Lib.DynamicIndex
public import Idealize.ShloMosaic.Lib.Routing.OpsOne
public import Idealize.ShloMosaic.Lib.Routing.OpsSet

@[expose] public section

noncomputable section

namespace Cert.ReferenceIdeal.Hand

open Cert.ReferenceIdeal Cert.ReferenceIdeal.Gen Cert.ReferenceIdeal.Value
open Idealize.ShloMosaic Idealize.ShloMosaic.TcCoe
open Cert.Moe

/-- An index that is a small number is left as it is by the wrap of negative indices. -/
theorem wrap_eq (s c : IVec S_ 32) (n : ℕ) (h : s = fun _ => BitVec.ofNat 32 n) (hn : n < 2 ^ 31) :
    select (cmpi .slt s (constantI S_ 32 0#32)) (addi s c) s = fun _ => BitVec.ofNat 32 n := by
  funext j
  rw [select_slt_zero_of_nonneg _ _ _ j (by rw [h]; show 0 ≤ (BitVec.ofNat 32 n).toInt; rw [toInt_ofNat_of_lt hn]; omega), h]

variable (V : Valuation τ sig (Elt Ideal))

/-- The indices as a list of words. -/
def words (v : Vec Ideal S512x1 .i32) (j : Fin 512) : BitVec 32 := v (ix2 j 0)

/-- Token `i`'s index is read. -/
theorem v12_at (i : Fin 512) (hi : V (Proc.devRef .tc main_v2_4) = fun _ => BitVec.ofNat 32 i.val) :
    res_main_while0b_v12 V = fun _ => words (V (Proc.devRef .tc main_v2_0)) i := by
  have hl := i.isLt
  have h4 : res_main_while0b_v4 V = fun _ => BitVec.ofNat 32 i.val := hi
  funext j
  unfold res_main_while0b_v12
  rw [wrap_eq _ _ i.val h4 (by omega), wrap_eq (constantI S_ 32 0#32) _ 0 rfl (by omega)]
  pointwise
  refine congrArg _ (congrArg₂ ix2 (Fin.ext ?_) (Fin.ext ?_))
  · show (min (max (BitVec.ofNat 32 i.val).toInt 0) ((512 - 1 : ℕ) : Int)).toNat = i.val
    rw [toInt_ofNat_of_lt (by omega)]; omega
  · rfl

/-- The count read for the token's expert. -/
theorem count_at (e : Fin 128) (s c : IVec S_ 32) (hs : s = fun _ => BitVec.ofNat 32 e.val) (v : IVec S128 32) :
    shapeCast S_ (Host.dynamicSlice S1 v (fun k => (((![select (cmpi .slt s (constantI S_ 32 0#32)) (addi s c) s]
      : Fin 1 → IVec S_ 32)) k (Shape.Idx.first h_S_)).toInt) sliceFits_S128_S1) shapeCasts_S1_S_ ix0 = v (ix1 e) := by
  have hl := e.isLt
  rw [wrap_eq _ _ e.val hs (by omega)]
  pointwise
  refine congrArg v (congrArg ix1 (Fin.ext ?_))
  show (min (max (BitVec.ofNat 32 e.val).toInt 0) ((128 - 1 : ℕ) : Int)).toNat = e.val
  rw [toInt_ofNat_of_lt (by omega)]; omega

/-- A word is an expert's number when, read signed, it is neither negative nor too great. -/
theorem expert_bit (e : BitVec 32) : IntOp.andi (IntOp.cmpi .sge e 0#32) (IntOp.cmpi .slt e 128#32) = 1#1 ↔ e.toNat < 128 := by
  rw [and_bit]
  show (BitVec.ofBool ((0#32).sle e) = 1#1 ∧ BitVec.ofBool (e.slt 128#32) = 1#1) ↔ _
  rw [BitVec.sle, BitVec.slt, ofBool_bit, ofBool_bit]
  have h0 : (0#32).toInt = 0 := by decide
  have h1 : (128#32).toInt = 128 := by decide
  rw [h0, h1, BitVec.toInt_eq_toNat_cond]
  have := e.isLt
  split <;> omega

/-- The token has room: its expert exists and the count read for it is below three. -/
theorem v22_at (i : Fin 512) (hi : V (Proc.devRef .tc main_v2_4) = fun _ => BitVec.ofNat 32 i.val)
    (cnt : Fin 128 → ℕ) (hc : ∀ e : Fin 128, (V (Proc.devRef .tc main_v2_5)) (ix1 e) = BitVec.ofNat 32 (min 3 (cnt e))) :
    res_main_while0b_v22 V ix0 = 1#1
      ↔ ∃ h : (words (V (Proc.devRef .tc main_v2_0)) i).toNat < 128, cnt ⟨(words (V (Proc.devRef .tc main_v2_0)) i).toNat, h⟩ < 3 := by
  have h12 := v12_at V i hi
  have key : res_main_while0b_v22 V ix0 = IntOp.andi
      (IntOp.andi (IntOp.cmpi .sge (words (V (Proc.devRef .tc main_v2_0)) i) 0#32) (IntOp.cmpi .slt (words (V (Proc.devRef .tc main_v2_0)) i) 128#32))
      (IntOp.cmpi .slt (shapeCast S_ (Host.dynamicSlice S1 (V (Proc.devRef .tc main_v2_5))
        (fun k => (((![select (cmpi .slt (res_main_while0b_v12 V) (constantI S_ 32 0#32)) (addi (res_main_while0b_v12 V) (constantI S_ 32 128#32)) (res_main_while0b_v12 V)]
          : Fin 1 → IVec S_ 32)) k (Shape.Idx.first h_S_)).toInt) sliceFits_S128_S1) shapeCasts_S1_S_ ix0) 3#32) := by
    have hx : res_main_while0b_v12 V ix0 = words (V (Proc.devRef .tc main_v2_0)) i := congrFun h12 ix0
    rw [← hx]
    rfl
  have hN := fun h1 : (words (V (Proc.devRef .tc main_v2_0)) i).toNat < 128 =>
    (count_at ⟨_, h1⟩ _ (constantI S_ 32 128#32) (h12.trans (funext fun _ => (BitVec.ofNat_toNat 32 _ ▸ (BitVec.setWidth_eq _).symm)))
      (V (Proc.devRef .tc main_v2_5))).trans (hc ⟨_, h1⟩)
  rw [key, and_bit, expert_bit]
  constructor
  · rintro ⟨h1, h2⟩
    refine ⟨h1, ?_⟩
    have h3 := (congrArg (fun z => IntOp.cmpi .slt z 3#32) (hN h1)).symm.trans h2
    have := (slt_bit _ 3 (by omega) (by omega)).1 h3
    omega
  · rintro ⟨h1, h2⟩
    refine ⟨h1, ?_⟩
    refine (congrArg (fun z => IntOp.cmpi .slt z 3#32) (hN h1)).trans ?_
    exact (slt_bit _ 3 (by omega) (by omega)).2 (by omega)

/-- Where the one update of a count lands. -/
theorem count_lands (idx : IVec S1 32) (k e : Fin 128) (hidx : idx (ix1 0) = BitVec.ofNat 32 k.val) (j : S_.Idx) :
    scatter_S128_S1_S__n_0_0_0.resultIdx? j idx = some (ix1 e) ↔ e = k := by
  have hk := k.isLt
  rw [ix1_eq_valueIdx] at hidx ⊢
  rw [show j = ValueIdx.ix0 from funext fun a => a.elim0]
  refine Routing.lands_one _ rfl rfl idx k ?_ e
  rw [hidx, toInt_ofNat_of_lt (by omega)]

/-- Where element `j` of a row written at row `k` lands. -/
theorem row_lands (idx : IVec S1 32) (k : Fin 512) (hidx : idx (ix1 0) = BitVec.ofNat 32 k.val) (j : S512.Idx) (a l : Fin 512) :
    scatter_S512x512_S1_S512_0_0_0_0.resultIdx? j idx = some (ix2 a l) ↔ a = k ∧ l = j 0 := by
  have hk := k.isLt
  rw [Routing.resultIdx?_eq_some]
  have h0 : scatter_S512x512_S1_S512_0_0_0_0.start j idx (0 : Fin 2) = (k.val : Int) := by
    have : scatter_S512x512_S1_S512_0_0_0_0.start j idx (0 : Fin 2) = (idx (ix1 0)).toInt := by
      unfold ScatterDims.start
      rw [dif_pos (show (0 : Fin 2) ∈ scatter_S512x512_S1_S512_0_0_0_0.scatterDimsToOperandDims from List.mem_singleton.2 rfl)]
      refine congrArg (fun i => (idx i).toInt) ?_
      funext b
      match b with
      | ⟨0, _⟩ => exact Subsingleton.elim (α := Fin 1) _ _
    rw [this, hidx, toInt_ofNat_of_lt (by omega)]
  have h1 : scatter_S512x512_S1_S512_0_0_0_0.start j idx (1 : Fin 2) = 0 := by
    unfold ScatterDims.start
    rw [dif_neg (show (1 : Fin 2) ∉ scatter_S512x512_S1_S512_0_0_0_0.scatterDimsToOperandDims from fun h => absurd (List.mem_singleton.1 h) (by decide))]
  have w0 : scatter_S512x512_S1_S512_0_0_0_0.window j (0 : Fin 2) = 0 := rfl
  have w1 : scatter_S512x512_S1_S512_0_0_0_0.window j (1 : Fin 2) = (j 0).val := rfl
  constructor
  · intro h
    have e0 := h 0
    have e1 := h 1
    rw [h0, w0] at e0
    rw [h1, w1] at e1
    change (k.val : Int) + ((0 : ℕ) : Int) = (a.val : Int) at e0
    change (0 : Int) + ((j 0).val : Int) = (l.val : Int) at e1
    exact ⟨Fin.ext (by omega), Fin.ext (by omega)⟩
  · rintro ⟨rfl, rfl⟩ b
    match b with
    | 0 => rw [h0, w0]; simp
    | 1 => rw [h1, w1]; simp

end Cert.ReferenceIdeal.Hand

end
-- ==== Proof.RI.Loop.lean ====
/- The reference's loop: what its carried arrays hold before each trip, and so the rows it returns. -/
module

public import proofs.«01_k».proof.Proof.RI.Step

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Idealize.ShloMosaic.Tactic
open Cert.Moe

/-- How many of the first `i` tokens chose expert `e`. -/
def cnt (w : Fin 512 → BitVec 32) (i : ℕ) (e : Fin 128) : ℕ :=
  (Finset.univ.filter fun j : Fin 512 => j.val < i ∧ w j = BitVec.ofNat 32 e.val).card

/-- A token that chose no expert `e` leaves its count. -/
theorem cnt_skip (w : Fin 512 → BitVec 32) (i : Fin 512) (e : Fin 128) (h : w i ≠ BitVec.ofNat 32 e.val) :
    cnt w (i.val + 1) e = cnt w i.val e := by
  unfold cnt
  refine congrArg Finset.card (Finset.filter_congr fun j _ => ?_)
  constructor
  · rintro ⟨h1, h2⟩
    refine ⟨?_, h2⟩
    have : j ≠ i := fun hj => h (hj ▸ h2)
    have : j.val ≠ i.val := fun h' => this (Fin.ext h')
    omega
  · rintro ⟨h1, h2⟩
    exact ⟨by omega, h2⟩

/-- A token that chose expert `e` adds one to its count. -/
theorem cnt_take (w : Fin 512 → BitVec 32) (i : Fin 512) (e : Fin 128) (h : w i = BitVec.ofNat 32 e.val) :
    cnt w (i.val + 1) e = cnt w i.val e + 1 := by
  unfold cnt
  rw [← Finset.card_insert_of_notMem (s := Finset.univ.filter fun j : Fin 512 => j.val < i.val ∧ w j = BitVec.ofNat 32 e.val) (a := i) (by simp)]
  congr 1
  ext j
  simp only [Finset.mem_filter, Finset.mem_univ, true_and, Finset.mem_insert]
  constructor
  · rintro ⟨h1, h2⟩
    rcases Nat.lt_or_ge j.val i.val with h3 | h3
    · exact Or.inr ⟨h3, h2⟩
    · exact Or.inl (Fin.ext (by omega))
  · rintro (rfl | ⟨h1, h2⟩)
    · exact ⟨by omega, h⟩
    · exact ⟨by omega, h2⟩

/-- Before token `i` its expert's count is its rank. -/
theorem cnt_rk (w : Fin 512 → BitVec 32) (i : Fin 512) (h : (w i).toNat < 128) : cnt w i.val ⟨(w i).toNat, h⟩ = rk w i := by
  unfold cnt rk
  simp

variable (V : Valuation τ sig (Elt Ideal))

/-- What the carried arrays hold before trip `i`, the tokens, indices and matrices being `X`, `I` and `E`. -/
structure Inv (X : Vec Ideal S512x256 .f32) (I : Vec Ideal S512x1 .i32) (E : Vec Ideal S128x256x512 .f32) (i : ℕ) : Prop where
  idx : V (Proc.devRef .tc main_v2_0) = I
  tok : V (Proc.devRef .tc main_v2_1) = X
  mat : V (Proc.devRef .tc main_v2_2) = E
  trip : V (Proc.devRef .tc main_v2_4) = fun _ => BitVec.ofNat 32 i
  counts : ∀ e : Fin 128, (V (Proc.devRef .tc main_v2_5)) (ix1 e) = BitVec.ofNat 32 (min 3 (cnt (words I) i e))
  rows : ∀ a l : Fin 512, (V (Proc.devRef .tc main_v2_6)) (ix2 a l)
    = if a.val < i then row (fun t k => X (ix2 t k)) (fun e k l => E (ix3 e k l)) (words I) a l else 0

variable {V}
variable {X : Vec Ideal S512x256 .f32} {I : Vec Ideal S512x1 .i32} {E : Vec Ideal S128x256x512 .f32}

/-- Whether token `i` has room. -/
theorem Inv.room {i : Fin 512} (h : Inv V X I E i.val) :
    res_main_while0b_v22 V ix0 = 1#1 ↔ (words I i).toNat < 128 ∧ rk (words I) i < 3 := by
  rw [v22_at V i h.trip (cnt (words I) i.val) h.counts, h.idx]
  constructor
  · rintro ⟨h1, h2⟩
    exact ⟨h1, by rwa [cnt_rk] at h2⟩
  · rintro ⟨h1, h2⟩
    exact ⟨h1, by rwa [cnt_rk]⟩

/-- The one update of the counts, read at an expert. -/
theorem scatter_count (x0 : IVec S128 32) (idx : IVec S1 32) (upd : IVec S_ 32) (e : Fin 128) :
    Host.scatter scatter_S128_S1_S__n_0_0_0 IntOp.addi x0 idx upd (ix1 e)
      = if scatter_S128_S1_S__n_0_0_0.resultIdx? ix0 idx = some (ix1 e) then IntOp.addi (x0 (ix1 e)) (upd ix0) else x0 (ix1 e) := by
  rw [Routing.scatter_at]
  have hn : S_.numel = 1 := by decide
  have hi : ∀ n : Fin S_.numel, S_.rowMajor.symm n = ix0 := fun n => funext fun a => a.elim0
  simp only [hi]
  rw [show List.finRange S_.numel = [⟨0, by decide⟩] from by decide]
  rfl

/-- The counts after token `i`. -/
theorem Inv.counts' {i : Fin 512} (h : Inv V X I E i.val) (e : Fin 128) :
    step_main_v2_5 V (ix1 e) = BitVec.ofNat 32 (min 3 (cnt (words I) (i.val + 1) e)) := by
  have h12 : res_main_while0b_v12 V = fun _ => words I i := by rw [v12_at V i h.trip, h.idx]
  have hs : step_main_v2_5 V (ix1 e) = _ := scatter_count (V (Proc.devRef .tc main_v2_5))
    (broadcastInDim S1 ![] bcast_S_S1 (select (cmpi .slt (res_main_while0b_v12 V) (constantI S_ 32 0#32))
      (addi (res_main_while0b_v12 V) (constantI S_ 32 128#32)) (res_main_while0b_v12 V)))
    (extui 32 (res_main_while0b_v22 V) natLt_1_32) e
  rw [hs]
  have hu : extui 32 (res_main_while0b_v22 V) natLt_1_32 ix0 = if (words I i).toNat < 128 ∧ rk (words I) i < 3 then 1#32 else 0#32 := by
    show (res_main_while0b_v22 V ix0).setWidth 32 = _
    by_cases hr : (words I i).toNat < 128 ∧ rk (words I) i < 3
    · rw [if_pos hr, h.room.2 hr]; rfl
    · rw [if_neg hr]
      have hb : ∀ b : BitVec 1, b ≠ 1#1 → b.setWidth 32 = 0#32 := by decide
      exact hb _ fun h' => hr (h.room.1 h')
  rw [hu, h.counts e]
  by_cases hr : (words I i).toNat < 128 ∧ rk (words I) i < 3
  · have hw : words I i = BitVec.ofNat 32 (words I i).toNat := by simp
    have hl := count_lands (broadcastInDim S1 ![] bcast_S_S1 (select (cmpi .slt (res_main_while0b_v12 V) (constantI S_ 32 0#32))
      (addi (res_main_while0b_v12 V) (constantI S_ 32 128#32)) (res_main_while0b_v12 V))) ⟨(words I i).toNat, hr.1⟩ e
      (congrFun (wrap_eq _ (constantI S_ 32 128#32) (words I i).toNat (h12.trans (funext fun _ => hw)) (by omega)) _) ix0
    rw [if_pos hr]
    by_cases he : e = ⟨(words I i).toNat, hr.1⟩
    · rw [if_pos (hl.2 he)]
      have hwe : words I i = BitVec.ofNat 32 e.val := by rw [he]; exact hw
      rw [cnt_take _ _ _ hwe]
      have hc : cnt (words I) i.val e < 3 := by rw [he, cnt_rk]; exact hr.2
      rw [min_eq_right (by omega), min_eq_right (by omega)]
      exact (BitVec.ofNat_add _ _).symm
    · rw [if_neg fun h' => he (hl.1 h'), cnt_skip]
      intro h'
      refine he (Fin.ext ?_)
      show e.val = (words I i).toNat
      rw [h', BitVec.toNat_ofNat]
      omega
  · rw [if_neg hr]
    have hz : IntOp.addi (BitVec.ofNat 32 (min 3 (cnt (words I) i.val e))) 0#32 = BitVec.ofNat 32 (min 3 (cnt (words I) i.val e)) :=
      BitVec.add_zero _
    rw [hz, ite_self]
    by_cases he : words I i = BitVec.ofNat 32 e.val
    · rw [cnt_take _ _ _ he]
      have hel := e.isLt
      have hn : (words I i).toNat = e.val := by rw [he, BitVec.toNat_ofNat]; omega
      have hc : cnt (words I) i.val e = rk (words I) i := by
        rw [← cnt_rk (words I) i (by omega)]
        exact congrArg _ (Fin.ext hn.symm)
      have : ¬ rk (words I) i < 3 := fun h' => hr ⟨by omega, h'⟩
      rw [min_eq_left (by omega), min_eq_left (by omega)]
    · rw [cnt_skip _ _ _ he]

/-- The one row written, read at a row and column. -/
theorem scatter_row (x0 : Vec Ideal S512x512 .f32) (idx : IVec S1 32) (upd : Vec Ideal S512 .f32) (k : Fin 512)
    (hidx : idx (ix1 0) = BitVec.ofNat 32 k.val) (a l : Fin 512) :
    Host.scatter scatter_S512x512_S1_S512_0_0_0_0 (fun _ b => b) x0 idx upd (ix2 a l) = if a = k then upd (ix1 l) else x0 (ix2 a l) := by
  by_cases ha : a = k
  · rw [if_pos ha]
    refine Routing.scatter_set_hit _ _ _ _ _ _ (fun j hj => congrArg upd ?_) (ix1 l) ((row_lands idx k hidx (ix1 l) a l).2 ⟨ha, rfl⟩)
    funext b
    match b with
    | 0 => exact ((row_lands idx k hidx j a l).1 hj).2.symm
  · rw [if_neg ha]
    exact Routing.scatter_set_miss _ _ _ _ _ fun j hj => ha ((row_lands idx k hidx j a l).1 hj).1

/-- The row written: the product where the bit is set, else zero. -/
theorem upd_at (b : IVec S_ 1) (x : Vec Ideal S256 .f32) (w : Vec Ideal S256x512 .f32) (l : Fin 512) :
    select (broadcastInDim S512 ![] bcast_S_S512 b) (Host.dotGeneral (F := Ideal) (φ₁ := .f32) (φ₂ := .f32) dot_S256_S256x512_S512_0_0_n_1_n_n none x w)
      (broadcastInDim S512 ![] bcast_S_S512 (id (constant (F := Ideal) S_ .f32 0x00000000#32))) (ix1 l)
      = if b ix0 = 1#1 then ∑ k : Fin 256, x (ix1 k) * w (ix2 k l) else 0 := by
  pointwise
  have hz : (id (constant (F := Ideal) S_ .f32 0x00000000#32) : Vec Ideal S_ .f32) ix0 = 0 := Ideal.ofBits_zero_f32
  rw [hz]
  rfl

/-- Token `i`'s row of the tokens. -/
theorem tok_at (i : Fin 512) (s c c' : IVec S_ 32) (hs : s = fun _ => BitVec.ofNat 32 i.val) (x : Vec Ideal S512x256 .f32) (k : Fin 256) :
    shapeCast S256 (Host.dynamicSlice S1x256 x (fun k => (((![select (cmpi .slt s (constantI S_ 32 0#32)) (addi s c) s,
      select (cmpi .slt (constantI S_ 32 0#32) (constantI S_ 32 0#32)) (addi (constantI S_ 32 0#32) c') (constantI S_ 32 0#32)]
      : Fin 2 → IVec S_ 32)) k (Shape.Idx.first h_S_)).toInt) sliceFits_S512x256_S1x256) shapeCasts_S1x256_S256 (ix1 k) = x (ix2 i k) := by
  have hl := i.isLt
  rw [wrap_eq _ _ i.val hs (by omega), wrap_eq (constantI S_ 32 0#32) _ 0 rfl (by omega)]
  pointwise
  refine congrArg x (congrArg₂ ix2 (Fin.ext ?_) (Fin.ext ?_))
  · show (min (max (BitVec.ofNat 32 i.val).toInt 0) ((512 - 1 : ℕ) : Int)).toNat = i.val
    rw [toInt_ofNat_of_lt (by omega)]; omega
  · show 0 + k.val = k.val
    omega

/-- Expert `e`'s matrix. -/
theorem mat_at (e : Fin 128) (s c c' c'' : IVec S_ 32) (hs : s = fun _ => BitVec.ofNat 32 e.val) (w : Vec Ideal S128x256x512 .f32)
    (k : Fin 256) (l : Fin 512) :
    shapeCast S256x512 (Host.dynamicSlice S1x256x512 w (fun k => (((![select (cmpi .slt s (constantI S_ 32 0#32)) (addi s c) s,
      select (cmpi .slt (constantI S_ 32 0#32) (constantI S_ 32 0#32)) (addi (constantI S_ 32 0#32) c') (constantI S_ 32 0#32),
      select (cmpi .slt (constantI S_ 32 0#32) (constantI S_ 32 0#32)) (addi (constantI S_ 32 0#32) c'') (constantI S_ 32 0#32)]
      : Fin 3 → IVec S_ 32)) k (Shape.Idx.first h_S_)).toInt) sliceFits_S128x256x512_S1x256x512) shapeCasts_S1x256x512_S256x512 (ix2 k l)
      = w (ix3 e k l) := by
  have hl := e.isLt
  rw [wrap_eq _ _ e.val hs (by omega), wrap_eq (constantI S_ 32 0#32) _ 0 rfl (by omega), wrap_eq (constantI S_ 32 0#32) _ 0 rfl (by omega)]
  pointwise
  have h3 : ∀ {p p' : Fin 128} {q q' : Fin 256} {r r' : Fin 512}, p = p' → q = q' → r = r' → ix3 p q r = ix3 p' q' r' := by
    rintro p _ q _ r _ rfl rfl rfl
    rfl
  refine congrArg w (h3 (Fin.ext ?_) (Fin.ext ?_) (Fin.ext ?_))
  · show (min (max (BitVec.ofNat 32 e.val).toInt 0) ((128 - 1 : ℕ) : Int)).toNat = e.val
    rw [toInt_ofNat_of_lt (by omega)]; omega
  · show 0 + k.val = k.val
    omega
  · show 0 + l.val = l.val
    omega

/-- The rows after token `i`. -/
theorem Inv.rows' {i : Fin 512} (h : Inv V X I E i.val) (a l : Fin 512) :
    step_main_v2_6 V (ix2 a l)
      = if a.val < i.val + 1 then row (fun t k => X (ix2 t k)) (fun e k l => E (ix3 e k l)) (words I) a l else 0 := by
  have hil := i.isLt
  have h12 : res_main_while0b_v12 V = fun _ => words I i := by rw [v12_at V i h.trip, h.idx]
  unfold step_main_v2_6
  rw [id_eq]
  have hidx : broadcastInDim S1 ![] bcast_S_S1 (id (select (cmpi .slt (V (Proc.devRef .tc main_v2_4)) (constantI S_ 32 0#32))
      (addi (V (Proc.devRef .tc main_v2_4)) (constantI S_ 32 512#32)) (V (Proc.devRef .tc main_v2_4)))) (ix1 0) = BitVec.ofNat 32 i.val :=
    congrFun (wrap_eq _ (constantI S_ 32 512#32) i.val h.trip (by omega)) _
  refine (scatter_row (V (Proc.devRef .tc main_v2_6)) _ _ i hidx a l).trans ?_
  by_cases ha : a = i
  · rw [if_pos ha, if_pos (by rw [ha]; omega), ha]
    refine (upd_at (res_main_while0b_v22 V) _ _ l).trans ?_
    unfold row
    by_cases hr : (words I i).toNat < 128 ∧ rk (words I) i < 3
    · rw [if_pos (h.room.2 hr), dif_pos hr]
      have hw : words I i = BitVec.ofNat 32 (words I i).toNat := by simp
      refine Finset.sum_congr rfl fun k _ => congrArg₂ (fun p q : EReal => p * q) ?_ ?_
      · exact (tok_at i _ _ _ h.trip (V (Proc.devRef .tc main_v2_1)) k).trans (by rw [h.tok])
      · exact (mat_at ⟨(words I i).toNat, hr.1⟩ _ _ _ _ (h12.trans (funext fun _ => hw)) (V (Proc.devRef .tc main_v2_2)) k l).trans
          (by rw [h.mat])
    · rw [if_neg fun h' => hr (h.room.1 h'), dif_neg hr]
  · rw [if_neg ha, h.rows]
    have : a.val ≠ i.val := fun h' => ha (Fin.ext h')
    exact if_congr (by omega) rfl rfl

/-- One trip carries the invariant on. -/
theorem Inv.step {i : Fin 512} (h : Inv V X I E i.val) : Inv (STEP V) X I E (i.val + 1) where
  idx := (STEP_main_v2_0 V).trans h.idx
  tok := (STEP_main_v2_1 V).trans h.tok
  mat := (STEP_main_v2_2 V).trans h.mat
  trip := (STEP_main_v2_4 V).trans (by
    funext j
    show IntOp.addi (V (Proc.devRef .tc main_v2_4) j) 1#32 = _
    rw [h.trip]
    exact (BitVec.ofNat_add _ _).symm)
  counts := fun e => (congrFun (STEP_main_v2_5 V) (ix1 e)).trans (h.counts' e)
  rows := fun a l => (congrFun (STEP_main_v2_6 V) (ix2 a l)).trans (h.rows' a l)

/-- The invariant holds before each trip, when it holds before the first. -/
theorem Inv.iter (h : Inv V X I E 0) : ∀ n : ℕ, n ≤ 512 → Inv (STEP^[n] V) X I E n
  | 0, _ => h
  | n + 1, hn => by
    rw [Function.iterate_succ_apply']
    exact Inv.step (i := ⟨n, by omega⟩) (Inv.iter h n (by omega))

/-- Nothing is counted before the first token. -/
theorem cnt_zero (w : Fin 512 → BitVec 32) (e : Fin 128) : cnt w 0 e = 0 := by
  unfold cnt
  refine Finset.card_eq_zero.2 (Finset.filter_eq_empty_iff.2 fun j _ h => ?_)
  exact absurd h.1 (by omega)

/-- The invariant before the first trip. -/
theorem Inv.entry (m : (ℓ : Loc nD τ sig) → Buf (Elt Ideal) ℓ) (c : Dev nD) : Inv (entryContents preI m c)
    (m ((c.tc : Thread nD τ).loc main_arg0)) (m ((c.tc : Thread nD τ).loc main_arg2)) (m ((c.tc : Thread nD τ).loc main_arg3)) 0 where
  idx := by
    simp only [entryContents, afterL_cons, afterL_nil]
    after_reads_simp
    rfl
  tok := by
    simp only [entryContents, afterL_cons, afterL_nil]
    after_reads_simp
    rfl
  mat := by
    simp only [entryContents, afterL_cons, afterL_nil]
    after_reads_simp
    rfl
  trip := by
    simp only [entryContents, afterL_cons, afterL_nil]
    after_reads_simp
    rfl
  counts := fun e => by
    rw [cnt_zero]
    simp only [entryContents, afterL_cons, afterL_nil]
    after_reads_simp
    rfl
  rows := fun a l => by
    rw [if_neg (by omega)]
    simp only [entryContents, afterL_cons, afterL_nil]
    after_reads_simp
    exact Ideal.ofBits_zero_f32

/-- The reference's result: row `t` is the row token `t` gets. -/
theorem result_at (m : (ℓ : Loc nD τ sig) → Buf (Elt Ideal) ℓ) (c : Dev nD) (X : Vec Ideal S512x256 .f32) (I : Vec Ideal S512x1 .i32)
    (E : Vec Ideal S128x256x512 .f32) (hX : m ((c.tc : Thread nD τ).loc main_arg0) = X) (hI : m ((c.tc : Thread nD τ).loc main_arg2) = I)
    (hE : m ((c.tc : Thread nD τ).loc main_arg3) = E) (t l : Fin 512) :
    (STEP^[512] (entryContents preI m c)) (Proc.devRef .tc main_v2_6) (ix2 t l)
      = row (fun t k => X (ix2 t k)) (fun e k l => E (ix3 e k l)) (words I) t l := by
  subst hX hI hE
  exact ((Inv.iter (Inv.entry m c) 512 le_rfl).rows t l).trans (if_pos t.isLt)

end Cert.ReferenceIdeal.Hand

end
-- ==== Proof.Value.lean ====
/- The kernel's result is the reference's, cut into the devices' blocks. -/
module

public import proofs.«01_k».proof.Defs
public import proofs.«01_k».proof.Proof.KI.Out
public import proofs.«01_k».proof.Proof.RI.Loop

@[expose] public section

noncomputable section

namespace Cert.Proof

open Idealize.ShloMosaic Idealize.SL.Sem
open Cert.Moe

/-- The whole result: row `t` is the row token `t` gets. -/
def whole (X : Vec Ideal ⟨2, ![512, 256]⟩ .f32) (I : Vec Ideal ⟨2, ![512, 1]⟩ .i32) (E : Vec Ideal ⟨3, ![128, 256, 512]⟩ .f32) :
    Vec Ideal ⟨2, ![512, 512]⟩ .f32 :=
  fun i => row (fun t k => X (ix2 t k)) (fun e k l => E (ix3 e k l)) (fun j => I (ix2 j 0)) (i 0) (i 1)

/-- A device's block of the whole result, at one of its rows and columns. -/
theorem block_at (X : Vec Ideal ⟨2, ![512, 256]⟩ .f32) (I : Vec Ideal ⟨2, ![512, 1]⟩ .i32) (E : Vec Ideal ⟨3, ![128, 256, 512]⟩ .f32)
    (c : Fin 32) (hB : Layout.Tiles ⟨2, ![16, 512]⟩ ⟨2, ![512, 512]⟩ 0 32) (a : Fin 16) (l t : Fin 512) (ht : t.val = 16 * c.val + a.val) :
    Layout.block ⟨2, ![16, 512]⟩ ⟨2, ![512, 512]⟩ 0 32 c (whole X I E) hB (ix2 a l)
      = row (fun t k => X (ix2 t k)) (fun e k l => E (ix3 e k l)) (fun j => I (ix2 j 0)) t l := by
  rw [Layout.block_apply]
  unfold whole
  have h0 : hB.idx c (ix2 a l) 0 = t := by
    apply Fin.ext
    rw [hB.idx_val]
    show c.val * 16 + a.val = t.val
    omega
  have h1 : hB.idx c (ix2 a l) 1 = l := by
    apply Fin.ext
    rw [hB.idx_val]
    rfl
  rw [h0, h1]

/-- The kernel and the reference, on extended reals, give the same result, and both leave their arguments unchanged. -/
theorem algebraic : Cert.algebraic_KernelIdeal_ReferenceIdeal := by
  intro m g m' g' _ hm
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨(h.1 c).1.trans ?_, (h.1 c).2⟩)
      (Cert.KernelIdeal.Hand.run_args (F := Ideal) m g)
    funext i
    have hc := c.isLt
    have ha := (i 0).isLt
    have hlt : 16 * c.val + (i 0).val < 512 := by
      have h1 : c.val < 32 := hc
      have h2 : (i 0).val < 16 := ha
      omega
    have hi : i = ix2 (i 0) (i 1) := (ix2_eta i).symm
    rw [hi]
    exact (Cert.KernelIdeal.Hand.outAt_at m g _ _ _ (fun c => (hm c).1) (fun c => (hm c).2.2.1) _ (fun c => (hm c).2.2.2) c (i 0)
      ⟨16 * c.val + (i 0).val, hlt⟩ (i 1) rfl).trans
      (block_at _ _ _ c _ (i 0) (i 1) ⟨16 * c.val + (i 0).val, hlt⟩ rfl).symm
  · refine (θ_run Cert.ReferenceIdeal.defs _ _).mono (fun r h => ⟨(h 0).1.trans ?_, (h 0).2⟩)
      (Cert.ReferenceIdeal.Value.run (F := Ideal) m' g')
    funext i
    have hi : i = ix2 (i 0) (i 1) := (ix2_eta i).symm
    exact (congrArg _ hi).trans (Cert.ReferenceIdeal.Hand.result_at m' 0 _ _ _ rfl rfl rfl (i 0) (i 1))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The claims together. -/
theorem claim : Cert.Claim := ⟨Cert.Kernel.Gen.facts, Cert.KernelIdeal.Gen.facts, Cert.ReferenceIdeal.Gen.facts,
  frameK, frameKI, frameRI, trivial, algebraic⟩

end Cert.Proof

end
